-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xC1F00000#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 256, 16, 64]⟩ 2 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 256, 16, 64]⟩ 2 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x256x512 : Shape := ⟨3, ![2, 256, 512]⟩
abbrev S512x1024 : Shape := ⟨2, ![512, 1024]⟩
abbrev S2x256x4x64 : Shape := ⟨4, ![2, 256, 4, 64]⟩
abbrev S1024x512 : Shape := ⟨2, ![1024, 512]⟩
abbrev S_ : Shape := ⟨0, ![]⟩

class Facts : Prop where
  bcast_S_S2x256x512 : S_.BroadcastsInDim S2x256x512 (![] : Fin 0 → Fin S2x256x512.rank)
  bcast_S_S512x1024 : S_.BroadcastsInDim S512x1024 (![] : Fin 0 → Fin S512x1024.rank)
  bcast_S_S2x256x4x64 : S_.BroadcastsInDim S2x256x4x64 (![] : Fin 0 → Fin S2x256x4x64.rank)

variable [Facts]

def fn {F : FTy → Type} [FloatOps F] (main_arg0 : FVec F S2x256x512 .bf16) (main_arg1 : FVec F S512x1024 .bf16) (main_arg2 : FVec F S2x256x4x64 .bf16) (main_arg3 : FVec F S2x256x4x64 .bf16) (main_arg4 : FVec F S1024x512 .bf16) : IVec S2x256x512 1 × IVec S512x1024 1 × IVec S2x256x4x64 1 :=
  let main_v0 : FVec F S2x256x512 .bf16 := Host.absf main_arg0
  let main_cst : FVec F S_ .bf16 := constant S_ .bf16 0x7F80#16
  let main_v1 : FVec F S2x256x512 .bf16 := broadcastInDim S2x256x512 ![] bcast_S_S2x256x512 main_cst
  let main_v2 : IVec S2x256x512 1 := cmpf .olt main_v0 main_v1
  let main_v3 : FVec F S512x1024 .bf16 := Host.absf main_arg1
  let main_cst_0 : FVec F S_ .bf16 := constant S_ .bf16 0x7F80#16
  let main_v4 : FVec F S512x1024 .bf16 := broadcastInDim S512x1024 ![] bcast_S_S512x1024 main_cst_0
  let main_v5 : IVec S512x1024 1 := cmpf .olt main_v3 main_v4
  let main_v6 : FVec F S2x256x4x64 .bf16 := Host.absf main_arg2
  let main_cst_1 : FVec F S_ .bf16 := constant S_ .bf16 0x7F80#16
  let main_v7 : FVec F S2x256x4x64 .bf16 := broadcastInDim S2x256x4x64 ![] bcast_S_S2x256x4x64 main_cst_1
  let main_v8 : IVec S2x256x4x64 1 := cmpf .olt main_v6 main_v7
  (main_v2, main_v5, main_v8)
-- ==== Pre_finite_scores_ReferenceIdeal.lean ====
abbrev S2x256x512 : Shape := ⟨3, ![2, 256, 512]⟩
abbrev S512x1024 : Shape := ⟨2, ![512, 1024]⟩
abbrev S2x256x16x64 : Shape := ⟨4, ![2, 256, 16, 64]⟩
abbrev S1024x512 : Shape := ⟨2, ![1024, 512]⟩
abbrev S_ : Shape := ⟨0, ![]⟩

class Facts : Prop where
  bcast_S_S2x256x512 : S_.BroadcastsInDim S2x256x512 (![] : Fin 0 → Fin S2x256x512.rank)
  bcast_S_S512x1024 : S_.BroadcastsInDim S512x1024 (![] : Fin 0 → Fin S512x1024.rank)
  bcast_S_S2x256x16x64 : S_.BroadcastsInDim S2x256x16x64 (![] : Fin 0 → Fin S2x256x16x64.rank)

variable [Facts]

def fn {F : FTy → Type} [FloatOps F] (main_arg0 : FVec F S2x256x512 .bf16) (main_arg1 : FVec F S512x1024 .bf16) (main_arg2 : FVec F S2x256x16x64 .bf16) (main_arg3 : FVec F S2x256x16x64 .bf16) (main_arg4 : FVec F S1024x512 .bf16) : IVec S2x256x512 1 × IVec S512x1024 1 × IVec S2x256x16x64 1 :=
  let main_v0 : FVec F S2x256x512 .bf16 := Host.absf main_arg0
  let main_cst : FVec F S_ .bf16 := constant S_ .bf16 0x7F80#16
  let main_v1 : FVec F S2x256x512 .bf16 := broadcastInDim S2x256x512 ![] bcast_S_S2x256x512 main_cst
  let main_v2 : IVec S2x256x512 1 := cmpf .olt main_v0 main_v1
  let main_v3 : FVec F S512x1024 .bf16 := Host.absf main_arg1
  let main_cst_0 : FVec F S_ .bf16 := constant S_ .bf16 0x7F80#16
  let main_v4 : FVec F S512x1024 .bf16 := broadcastInDim S512x1024 ![] bcast_S_S512x1024 main_cst_0
  let main_v5 : IVec S512x1024 1 := cmpf .olt main_v3 main_v4
  let main_v6 : FVec F S2x256x16x64 .bf16 := Host.absf main_arg2
  let main_cst_1 : FVec F S_ .bf16 := constant S_ .bf16 0x7F80#16
  let main_v7 : FVec F S2x256x16x64 .bf16 := broadcastInDim S2x256x16x64 ![] bcast_S_S2x256x16x64 main_cst_1
  let main_v8 : IVec S2x256x16x64 1 := cmpf .olt main_v6 main_v7
  (main_v2, main_v5, main_v8)
-- ==== Kernel.lean ====
abbrev S2x256x512 : Shape := ⟨3, ![2, 256, 512]⟩
abbrev S512x1024 : Shape := ⟨2, ![512, 1024]⟩
abbrev S2x256x4x64 : Shape := ⟨4, ![2, 256, 4, 64]⟩
abbrev S1024x512 : Shape := ⟨2, ![1024, 512]⟩
abbrev S4x128x512 : Shape := ⟨3, ![4, 128, 512]⟩
abbrev S2x4 : Shape := ⟨2, ![2, 4]⟩
abbrev S_ : Shape := ⟨0, ![]⟩
abbrev S512x256 : Shape := ⟨2, ![512, 256]⟩
abbrev S256x512 : Shape := ⟨2, ![256, 512]⟩
abbrev S128x256 : Shape := ⟨2, ![128, 256]⟩
abbrev S1x128x512 : Shape := ⟨3, ![1, 128, 512]⟩
abbrev S128x512 : Shape := ⟨2, ![128, 512]⟩
abbrev S1x256x4x64 : Shape := ⟨4, ![1, 256, 4, 64]⟩
abbrev S256x4x64 : Shape := ⟨3, ![256, 4, 64]⟩
abbrev S256x256 : Shape := ⟨2, ![256, 256]⟩
abbrev S128x64 : Shape := ⟨2, ![128, 64]⟩
abbrev S256x64 : Shape := ⟨2, ![256, 64]⟩
abbrev S128 : Shape := ⟨1, ![128]⟩
abbrev S128x1 : Shape := ⟨2, ![128, 1]⟩
abbrev S1x1 : Shape := ⟨2, ![1, 1]⟩

abbrev nBuf : Space → Nat
  | .hbm => 6
  | .vmem => 10
  | .smem => 0
  | _ => 0

abbrev bufTy : (tb : Table) → Fin (tcTables nBuf tb) → BufTy
  | .hbm, ⟨0, _⟩ => ⟨S2x256x512, .bf16⟩
  | .hbm, ⟨1, _⟩ => ⟨S512x1024, .bf16⟩
  | .hbm, ⟨2, _⟩ => ⟨S2x256x4x64, .bf16⟩
  | .hbm, ⟨3, _⟩ => ⟨S2x256x4x64, .bf16⟩
  | .hbm, ⟨4, _⟩ => ⟨S1024x512, .bf16⟩
  | .hbm, ⟨5, _⟩ => ⟨S2x256x512, .f32⟩
  | .local _ .vmem, ⟨0, _⟩ => ⟨S2x256x512, .bf16⟩
  | .local _ .vmem, ⟨1, _⟩ => ⟨S512x1024, .bf16⟩
  | .local _ .vmem, ⟨2, _⟩ => ⟨S2x256x4x64, .bf16⟩
  | .local _ .vmem, ⟨3, _⟩ => ⟨S2x256x4x64, .bf16⟩
  | .local _ .vmem, ⟨4, _⟩ => ⟨S1024x512, .bf16⟩
  | .local _ .vmem, ⟨5, _⟩ => ⟨S2x256x512, .f32⟩
  | .local _ .vmem, ⟨6, _⟩ => ⟨S4x128x512, .bf16⟩
  | .local _ .vmem, ⟨7, _⟩ => ⟨S4x128x512, .bf16⟩
  | .local _ .vmem, ⟨8, _⟩ => ⟨S4x128x512, .bf16⟩
  | .local _ .vmem, ⟨9, _⟩ => ⟨S4x128x512, .bf16⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v8 : BitVec 32 := Scalar.muli v4 c1_i32_4
  let v9 : BitVec 32 := Scalar.addi c0_i32_5 v8
  v9.toNat
def k0_off1 (d0 : Dev nD) : Fin 2 → Nat :=
  let c0 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v10 : BitVec 32 := Scalar.muli v2 c256_i32
  let v11 : Index := Scalar.indexCast v10
  ![0, v11.toNat]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_6 : BitVec 32 := 256#32
  let v14 : BitVec 32 := Scalar.muli v2 c256_i32_6
  let v15 : Index := Scalar.indexCast v14
  let c0_7 : Index := 0#32
  ![v15.toNat, 0]
def k0_dev3 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_54 : BitVec 32 := 1#32
  let v114 : BitVec 32 := Scalar.muli v3 c1_i32_54
  let v115 : BitVec 32 := Scalar.addi c0_i32_55 v114
  v115.toNat
def k0_dev4 (d0 : Dev nD) : Nat :=
  let c0_i32_107 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_106 : BitVec 32 := 1#32
  let v219 : BitVec 32 := Scalar.muli v3 c1_i32_106
  let v220 : BitVec 32 := Scalar.addi c0_i32_107 v219
  v220.toNat
def k0_dev5 (d0 : Dev nD) : Nat :=
  let c0_i32_140 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_139 : BitVec 32 := 1#32
  let v248 : BitVec 32 := Scalar.muli v4 c1_i32_139
  let v249 : BitVec 32 := Scalar.addi c0_i32_140 v248
  v249.toNat
def k0_dev6 (d0 : Dev nD) : Nat :=
  let c0_i32_193 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_192 : BitVec 32 := 1#32
  let v353 : BitVec 32 := Scalar.muli v3 c1_i32_192
  let v354 : BitVec 32 := Scalar.addi c0_i32_193 v353
  v354.toNat
def k0_dev7 (d0 : Dev nD) : Nat :=
  let c0_i32_226 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_225 : BitVec 32 := 1#32
  let v382 : BitVec 32 := Scalar.muli v4 c1_i32_225
  let v383 : BitVec 32 := Scalar.addi c0_i32_226 v382
  v383.toNat
def k0_dev8 (d0 : Dev nD) : Nat :=
  let c0_i32_297 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_296 : BitVec 32 := 1#32
  let v502 : BitVec 32 := Scalar.muli v3 c1_i32_296
  let v503 : BitVec 32 := Scalar.addi c0_i32_297 v502
  v503.toNat
def k0_dev9 (d0 : Dev nD) : Nat :=
  let c0_i32_330 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_329 : BitVec 32 := 1#32
  let v531 : BitVec 32 := Scalar.muli v4 c1_i32_329
  let v532 : BitVec 32 := Scalar.addi c0_i32_330 v531
  v532.toNat
def k0_dev10 (d0 : Dev nD) : Nat :=
  let c0_i32_381 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_380 : BitVec 32 := 1#32
  let v575 : BitVec 32 := Scalar.muli v4 c1_i32_380
  let v576 : BitVec 32 := Scalar.addi c0_i32_381 v575
  v576.toNat
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x256x512 : Shape := ⟨3, ![2, 256, 512]⟩
abbrev S512x1024 : Shape := ⟨2, ![512, 1024]⟩
abbrev S2x256x16x64 : Shape := ⟨4, ![2, 256, 16, 64]⟩
abbrev S1024x512 : Shape := ⟨2, ![1024, 512]⟩
abbrev S2x256x1024 : Shape := ⟨3, ![2, 256, 1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S2x16x256x256 : Shape := ⟨4, ![2, 16, 256, 256]⟩
abbrev S1x1x256x256 : Shape := ⟨4, ![1, 1, 256, 256]⟩
abbrev S2x16x256 : Shape := ⟨3, ![2, 16, 256]⟩
abbrev S2x16x256x1 : Shape := ⟨4, ![2, 16, 256, 1]⟩
abbrev S1x1x256x1 : Shape := ⟨4, ![1, 1, 256, 1]⟩
abbrev S2x16x64x256 : Shape := ⟨4, ![2, 16, 64, 256]⟩

abbrev nBuf : Space → Nat
  | .hbm => 62
  | .vmem => 0
  | .smem => 0
  | _ => 0

abbrev bufTy : (tb : Table) → Fin (tcTables nBuf tb) → BufTy
  | .hbm, ⟨0, _⟩ => ⟨S2x256x512, .bf16⟩
  | .hbm, ⟨1, _⟩ => ⟨S512x1024, .bf16⟩
  | .hbm, ⟨2, _⟩ => ⟨S2x256x16x64, .bf16⟩
  | .hbm, ⟨3, _⟩ => ⟨S2x256x16x64, .bf16⟩
  | .hbm, ⟨4, _⟩ => ⟨S1024x512, .bf16⟩
  | .hbm, ⟨5, _⟩ => ⟨S2x256x1024, .f32⟩
  | .hbm, ⟨6, _⟩ => ⟨S2x256x1024, .bf16⟩
  | .hbm, ⟨7, _⟩ => ⟨S2x256x16x64, .bf16⟩
  | .hbm, ⟨8, _⟩ => ⟨S256, .i32⟩
  | .hbm, ⟨9, _⟩ => ⟨S256x1, .i32⟩
  | .hbm, ⟨10, _⟩ => ⟨S256, .i32⟩
  | .hbm, ⟨11, _⟩ => ⟨S1x256, .i32⟩
  | .hbm, ⟨12, _⟩ => ⟨S256x256, .i32⟩
  | .hbm, ⟨13, _⟩ => ⟨S256x256, .i32⟩
  | .hbm, ⟨14, _⟩ => ⟨S256x256, .i32⟩
  | .hbm, ⟨15, _⟩ => ⟨S256x256, .i32⟩
  | .hbm, ⟨16, _⟩ => ⟨S_, .i32⟩
  | .hbm, ⟨17, _⟩ => ⟨S256x256, .i32⟩
  | .hbm, ⟨18, _⟩ => ⟨S256x256, .i1⟩
  | .hbm, ⟨19, _⟩ => ⟨S2x16x256x256, .f32⟩
  | .hbm, ⟨20, _⟩ => ⟨S2x16x256x256, .bf16⟩
  | .hbm, ⟨21, _⟩ => ⟨S2x16x256x256, .f32⟩
  | .hbm, ⟨22, _⟩ => ⟨S_, .f32⟩
  | .hbm, ⟨23, _⟩ => ⟨S2x16x256x256, .f32⟩
  | .hbm, ⟨24, _⟩ => ⟨S2x16x256x256, .f32⟩
  | .hbm, ⟨25, _⟩ => ⟨S1x1x256x256, .i1⟩
  | .hbm, ⟨26, _⟩ => ⟨S_, .f32⟩
  | .hbm, ⟨27, _⟩ => ⟨S_, .f32⟩
  | .hbm, ⟨28, _⟩ => ⟨S2x16x256x256, .i1⟩
  | .hbm, ⟨29, _⟩ => ⟨S2x16x256x256, .f32⟩
  | .hbm, ⟨30, _⟩ => ⟨S2x16x256x256, .f32⟩
  | .hbm, ⟨31, _⟩ => ⟨S_, .f32⟩
  | .hbm, ⟨32, _⟩ => ⟨S2x16x256, .f32⟩
  | .hbm, ⟨33, _⟩ => ⟨S2x16x256x1, .f32⟩
  | .hbm, ⟨34, _⟩ => ⟨S2x16x256x256, .f32⟩
  | .hbm, ⟨35, _⟩ => ⟨S2x16x256x256, .f32⟩
  | .hbm, ⟨36, _⟩ => ⟨S2x16x256x256, .f32⟩
  | .hbm, ⟨37, _⟩ => ⟨S_, .i1⟩
  | .hbm, ⟨38, _⟩ => ⟨S256, .i1⟩
  | .hbm, ⟨39, _⟩ => ⟨S1x1x256x1, .i1⟩
  | .hbm, ⟨40, _⟩ => ⟨S_, .f32⟩
  | .hbm, ⟨41, _⟩ => ⟨S2x16x256, .f32⟩
  | .hbm, ⟨42, _⟩ => ⟨S2x16x256x1, .f32⟩
  | .hbm, ⟨43, _⟩ => ⟨S_, .f32⟩
  | .hbm, ⟨44, _⟩ => ⟨S_, .f32⟩
  | .hbm, ⟨45, _⟩ => ⟨S2x16x256x1, .i1⟩
  | .hbm, ⟨46, _⟩ => ⟨S2x16x256x1, .f32⟩
  | .hbm, ⟨47, _⟩ => ⟨S2x16x256x1, .f32⟩
  | .hbm, ⟨48, _⟩ => ⟨S2x16x256x256, .f32⟩
  | .hbm, ⟨49, _⟩ => ⟨S2x16x256x256, .f32⟩
  | .hbm, ⟨50, _⟩ => ⟨S1x1x256x1, .i1⟩
  | .hbm, ⟨51, _⟩ => ⟨S_, .f32⟩
  | .hbm, ⟨52, _⟩ => ⟨S_, .f32⟩
  | .hbm, ⟨53, _⟩ => ⟨S2x16x256x256, .i1⟩
  | .hbm, ⟨54, _⟩ => ⟨S2x16x256x256, .f32⟩
  | .hbm, ⟨55, _⟩ => ⟨S2x16x256x256, .f32⟩
  | .hbm, ⟨56, _⟩ => ⟨S2x256x16x64, .f32⟩
  | .hbm, ⟨57, _⟩ => ⟨S2x16x64x256, .f32⟩
  | .hbm, ⟨58, _⟩ => ⟨S2x256x16x64, .f32⟩
  | .hbm, ⟨59, _⟩ => ⟨S2x256x1024, .f32⟩
  | .hbm, ⟨60, _⟩ => ⟨S1024x512, .f32⟩
  | .hbm, ⟨61, _⟩ => ⟨S2x256x512, .f32⟩
  | _, _ => ⟨S2x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]
-- ==== Proof.Slots.lean ====
/-
The slots of the exchange's scratch buffers.

Each of the four scratch buffers (what the first exchange sends, what it receives, and the same for the second) is cut
into four slots, one for each block of 128 rows of the result. A slot is owned as a whole, at a share, together with
what a load of the slot reads. This file defines that ownership and proves what a load, a store and a landing copy
make of it, and that a buffer held whole is its four slots.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The resources -/

/-- The exchange's ghost state: its cells' rounds, their duties named by a truth value. -/
abbrev UX : Type := URounds (GSem nD τ sig) Bool
/-- The pipeline's ghost state beside the exchange's. -/
abbrev UU : Type := UR sig nD τ × UX

local notation "𝕄" => MT nD τ sig Unit (Elt F) ℕ UU ℕ

/-- A scratch buffer of the exchange, or a window of one. -/
abbrev Scr : Type := Memref sig .tc .vmem S4x128x512 .bf16
/-- What one slot holds: 128 rows of 512. -/
abbrev Rows (F : FTy → Type) : Type := S1x128x512.Idx → Elt F .bf16

set_option backward.proofsInPublic true in
/-- The rectangle of slot `j`. -/
abbrev rS (j : Fin 4) : Rect S4x128x512 :=
  Rect.unit (s := S4x128x512) ![j.val, 0, 0] S1x128x512.size (by revert j; decide)

/-- Slot `j` as the copies name it: the slice, its unit axis dropped. -/
abbrev slot (M : Scr) (j : Fin 4) : Memref sig .tc .vmem S128x512 .bf16 :=
  (M.slice (rS j) (fun _ => rfl)).squeeze S128x512 squeezes_S1x128x512_S128x512

/-- Device `c` owns slot `j` of `M` at share `q`, and a load of it reads `Y`. -/
def slotPt (M : Scr) (c : Dev nD) (j : Fin 4) (q : PosShare TreeShare) (Y : Rows F) : sProp 𝕄 :=
  iprop(∃ f : Buf (Elt F) (M.view.loc (c : Thread nD τ)), ⌜M.view.readAt (Elt F) (rS j).toLoadRect f = Y⌝
    ∗ (M.view.loc (c : Thread nD τ) ↦[(M.access (rS j)).set]{q} f))

/-- Device `c` owns slot `j` of `M` outright, at whatever it holds. -/
def slotAny (M : Scr) (c : Dev nD) (j : Fin 4) : sProp 𝕄 := iprop(∃ Y, slotPt (F := F) M c j fullShare Y)

omit [FloatOps F] [Named F] in
/-- A slot at known contents may be kept in an invariant, -/
instance slotPt_storable (M : Scr) (c : Dev nD) (j : Fin 4) (q : PosShare TreeShare) (Y : Rows F) :
    BI.Storable (upEmb : UEmb _ 𝕄) (slotPt (F := F) M c j q Y) := by unfold slotPt; infer_instance
omit [FloatOps F] [Named F] in
/-- and so may a slot at whatever it holds. -/
instance slotAny_storable (M : Scr) (c : Dev nD) (j : Fin 4) :
    BI.Storable (upEmb : UEmb _ 𝕄) (slotAny (F := F) M c j) := by unfold slotAny; infer_instance

/-! ## What a copy, a load and a store make of a slot -/

omit [FloatOps F] [Named F] in
/-- A copy of one slot onto another makes a load of the second read what a load of the first reads. -/
theorem read_after_copy (M M' : Scr) (j : Fin 4) (fs : M.view.ty.Contents (Elt F)) (fd : M'.view.ty.Contents (Elt F)) :
    M'.view.readAt (Elt F) (rS j).toLoadRect
        ((slot M' j).view.write (Elt F) fd ((slot M j).view.read (Elt F) fs) Finset.univ)
      = M.view.readAt (Elt F) (rS j).toLoadRect fs := by
  have hc : (rS j).shape.ShapeCasts S128x512 := (show S1x128x512.ShapeCasts S128x512 by decide)
  have h := View.read_write_univ (v := (slot M' j).view) (Val := Elt F) fd ((slot M j).view.read (Elt F) fs)
  rw [Memref.read_squeeze_slice M (rS j) _ _ hc, Memref.read_squeeze_slice M' (rS j) _ _ hc] at h
  funext x
  have hx := congrFun h ((Shape.reshapeEquiv hc).symm x)
  simp only [shapeCast, Equiv.apply_symm_apply] at hx
  exact hx

omit [FloatOps F] [Named F] in
/-- A store of the whole slot makes a load of it read what was stored. -/
theorem read_after_store (M : Scr) (j : Fin 4) (f : M.view.ty.Contents (Elt F)) (w : Rows F) :
    M.view.readAt (Elt F) (rS j).toLoadRect ((M.access (rS j)).write (Elt F) f w Finset.univ) = w :=
  View.read_write_univ (v := M.access (rS j)) (Val := Elt F) f w

omit [FloatOps F] [Named F] in
/-- The elements under a slot, however it is named. -/
theorem slot_set (M : Scr) (j : Fin 4) : (slot M j).view.set = (M.access (rS j)).set := View.set_reshape _ _

/-- No loop of the body needs a variant. -/
abbrev 𝒱₀ : Variants := Variants.none

/-- A load of a slot continues at what the slot holds. -/
theorem wp_ld (M : Scr) (c : Dev nD) (j : Fin 4) (q : PosShare TreeShare) (Y : Rows F)
    {hl : M.view.LoadsAt (rS j).toLoadRect} {α : Type} {Q : α → sProp 𝕄}
    {k : Rows F → Prog (TpuEff nD τ sig (Elt F) Λ₀ .tc) α} :
    slotPt M c j q Y ⊢ iprop((slotPt M c j q Y -∗ wp frame (wpE (defs₀ (F := F)) 𝒱₀ (c : Thread nD τ) none) Set.univ (k Y) Q)
      -∗ wp frame (wpE (defs₀ (F := F)) 𝒱₀ (c : Thread nD τ) none) Set.univ (.op (.load M (rS j).toLoadRect hl) k) Q) := by
  unfold slotPt
  iintro ⟨%f, %hf, H⟩ Hk
  iapply (wp_load 𝒱₀ (c : Thread nD τ) none Set.univ (m := M) (by
    rw [View.set_slice]; exact Finset.Subset.refl _)) $$ H
  iintro H
  rw [hf]
  iapply Hk
  iexists f
  isplitr; · ipureintro; exact hf
  iexact H

/-- A store of a slot owned outright leaves it holding what was stored. -/
theorem wp_st (M : Scr) (c : Dev nD) (j : Fin 4) (Y w : Rows F)
    {hx : (M.access (rS j)).Stores Finset.univ} {hm : (Finset.univ : Finset (rS j).shape.Idx) = Finset.univ ∨ ∀ a, (rS j).stride a = 1}
    {α : Type} {Q : α → sProp 𝕄}
    {k : PUnit → Prog (TpuEff nD τ sig (Elt F) Λ₀ .tc) α} :
    slotPt M c j fullShare Y ⊢ iprop((slotPt M c j fullShare w -∗ wp frame (wpE (defs₀ (F := F)) 𝒱₀ (c : Thread nD τ) none) Set.univ (k ⟨⟩) Q)
      -∗ wp frame (wpE (defs₀ (F := F)) 𝒱₀ (c : Thread nD τ) none) Set.univ (.op (.store M (rS j) w Finset.univ hx hm) k) Q) := by
  unfold slotPt
  iintro ⟨%f, %hf, H⟩ Hk
  iapply (wp_store 𝒱₀ (c : Thread nD τ) none Set.univ (m := M) (r := rS j) (Mk := Finset.univ) (S := (M.access (rS j)).set) (f := f) (Finset.Subset.refl _)) $$ H
  iintro H
  iapply Hk
  iexists _
  isplitr; · ipureintro; exact read_after_store M j f w
  iexact H

omit [FloatOps F] [Named F] in
/-- A slot owned outright is owned twice at half its share; -/
theorem slot_halve (M : Scr) (c : Dev nD) (j : Fin 4) (Y : Rows F) :
    slotPt M c j fullShare Y ⊢ (iprop(slotPt M c j fullShare.left Y ∗ slotPt M c j fullShare.right Y) : sProp 𝕄) := by
  unfold slotPt
  iintro ⟨%f, %hf, H⟩
  ihave H2 := (pointsTo_share (PosShare.mem_left_op_right fullShare)).1 $$ H
  icases H2 with ⟨H1, H2⟩
  isplitl [H1]
  · iexists f; isplitr; · ipureintro; exact hf
    iexact H1
  · iexists f; isplitr; · ipureintro; exact hf
    iexact H2

omit [FloatOps F] [Named F] in
/-- and the two halves are the slot again. -/
theorem slot_join (M : Scr) (c : Dev nD) (j : Fin 4) (Y Y' : Rows F) :
    (iprop(slotPt M c j fullShare.left Y ∗ slotPt M c j fullShare.right Y') : sProp 𝕄) ⊢ slotAny M c j := by
  unfold slotAny slotPt
  iintro ⟨⟨%f, %hf, H1⟩, ⟨%g, %hg, H2⟩⟩
  ihave H := (persistent_entails_right pointsTo_agree) $$ [H1 H2]
  · isplitl [H1] <;> iassumption
  icases H with ⟨%ha, H1, H2⟩
  iexists Y, f
  isplitr; · ipureintro; exact hf
  iapply (pointsTo_share (PosShare.mem_left_op_right fullShare)).2
  isplitl [H1]; · iexact H1
  rw [pointsTo_congr (f := f) (g := g) fun i hi => (ha i (Finset.mem_inter.mpr ⟨hi, hi⟩)).1]
  iexact H2

/-! ## A buffer and its four slots -/

omit [FloatOps F] [Named F] in
/-- Two slots share no element, -/
theorem slots_disjoint {j j' : Fin 4} (h : j ≠ j') : Disjoint (rS j).set (rS j').set := by
  rw [Finset.disjoint_left]
  intro i hi hi'
  have h1 := Rect.mem_set_unit.mp hi 0
  have h2 := Rect.mem_set_unit.mp hi' 0
  simp at h1 h2
  exact h (Fin.ext (by omega))

omit [FloatOps F] [Named F] in
/-- and every element lies in one. -/
theorem slots_cover : (Finset.univ : Finset (Fin 4)).biUnion (fun j => (rS j).set) = Finset.univ := by
  ext i
  simp only [Finset.mem_biUnion, Finset.mem_univ, true_and, iff_true]
  refine ⟨i 0, Rect.mem_set_unit.mpr fun a => ?_⟩
  fin_cases a
  · exact ⟨le_refl _, Nat.lt_succ_self _⟩
  · exact ⟨Nat.zero_le _, by have := (i 1).isLt; simpa using this⟩
  · exact ⟨Nat.zero_le _, by have := (i 2).isLt; simpa using this⟩

omit [FloatOps F] [Named F] in
/-- A conjunction over the four slots, written out. -/
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The elements of slot `j` in the buffer `M` names. -/
abbrev slotSet (M : Scr) (j : Fin 4) : Finset M.view.ty.Idx := (M.access (rS j)).set

omit [FloatOps F] [Named F] in
/-- The same of the slots within the buffer itself: they share nothing, -/
theorem access_disjoint (M : Scr) (j j' : Fin 4) (h : j ≠ j') : Disjoint (slotSet M j) (slotSet M j') := by
  unfold slotSet
  rw [View.set_slice, View.set_slice]
  exact (Finset.disjoint_map M.view.emb).mpr (slots_disjoint h)

omit [FloatOps F] [Named F] in
/-- and they cover it. -/
theorem access_cover (M : Scr) (hM : M.view.set = Finset.univ) :
    (Finset.univ : Finset (Fin 4)).biUnion (slotSet M) = Finset.univ := by
  rw [← hM, View.set, ← slots_cover]
  ext i
  simp only [Finset.mem_biUnion, Finset.mem_map, Finset.mem_univ, true_and, slotSet, View.set_slice]
  exact ⟨fun ⟨j, x, hx, h⟩ => ⟨x, ⟨j, hx⟩, h⟩, fun ⟨x, ⟨j, hx⟩, h⟩ => ⟨j, x, hx, h⟩⟩

omit [FloatOps F] [Named F] in
/-- Holding a slot's elements is holding the slot at whatever it holds, -/
theorem slotAny_intro (M : Scr) (c : Dev nD) (j : Fin 4) (f : Buf (Elt F) (M.view.loc (c : Thread nD τ))) :
    (M.view.loc (c : Thread nD τ) ↦[slotSet M j]{fullShare} f : sProp 𝕄) ⊢ slotAny M c j := by
  unfold slotAny slotPt
  iintro H
  iexists _, f
  isplitr; · ipureintro; rfl
  iexact H

omit [FloatOps F] [Named F] in
/-- and the other way round. -/
theorem slotAny_elim (M : Scr) (c : Dev nD) (j : Fin 4) :
    slotAny M c j ⊢ (iprop(∃ f, M.view.loc (c : Thread nD τ) ↦[slotSet M j]{fullShare} f) : sProp 𝕄) := by
  unfold slotAny slotPt
  iintro ⟨%Y, %f, -, H⟩
  iexists f
  iexact H

omit [FloatOps F] [Named F] in
/-- A buffer held whole is its four slots, each at whatever it holds; -/
theorem slots_of_whole (M : Scr) (hM : M.view.set = Finset.univ) (c : Dev nD) (f : Buf (Elt F) (M.view.loc (c : Thread nD τ))) :
    (M.view.loc (c : Thread nD τ) ↦{fullShare} f : sProp 𝕄)
      ⊢ iprop(slotAny M c 0 ∗ slotAny M c 1 ∗ slotAny M c 2 ∗ slotAny M c 3) := by
  rw [← bigSep_fin4 (F := F) fun j => slotAny M c j,
    Ring.pointsTo_blocks (slotSet M) (access_disjoint M) (access_cover M hM)]
  exact bigSep_mono fun j _ => slotAny_intro M c j f

omit [FloatOps F] [Named F] in
/-- and the four slots are the buffer held whole, at some contents. -/
theorem whole_of_slots (M : Scr) (hM : M.view.set = Finset.univ) (c : Dev nD) (f₀ : Buf (Elt F) (M.view.loc (c : Thread nD τ))) :
    (iprop(slotAny M c 0 ∗ slotAny M c 1 ∗ slotAny M c 2 ∗ slotAny M c 3) : sProp 𝕄)
      ⊢ iprop(∃ f, M.view.loc (c : Thread nD τ) ↦{fullShare} f) := by
  rw [← bigSep_fin4 (F := F) fun j => slotAny M c j]
  refine (bigSep_mono fun j _ => slotAny_elim M c j).trans ?_
  exact Ring.pointsTo_blocks_join_exists (ℓ := M.view.loc (c : Thread nD τ)) (Val := Elt F) (Ix := Unit) (Name := ℕ) (U := UU)
    (Lvl := ℕ) (slotSet M) (access_disjoint M) (access_cover M hM) (q := fullShare) f₀

end Cert.Exchange
-- ==== Proof.Protocol.lean ====
/-
The protocol of the exchange.

Every device signals both of its partners' barrier semaphore and waits for two units on its own; a signal hands over the
signalling device's landing slots, so that after the wait a device may write into its partners' buffers. Then, for each of the
two stages and each of the four slots, it copies a slot of its own onto the same slot of the stage's partner. A copy's
landing hands the partner the slot with the contents the sender had; its completion hands the sender the lent slot back.

The contents of the copies are a parameter here: `X st j c` is what device `c` sends in stage `st` from slot `j`.
-/
module

public import proofs.«01_k».proof.Proof.Slots

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- Where the pipeline's ghost state lives, -/
abbrev EP : Emb (UR sig nD τ) (MT nD τ sig Unit (Elt F) ℕ UU ℕ) := embL
/-- and the exchange's. -/
abbrev ER : Emb UX (MT nD τ sig Unit (Elt F) ℕ UU ℕ) := embR

/-! ## The partners -/

set_option backward.proofsInPublic true in
/-- The partner of device `c` in a stage: the first pairs 0 with 1 and 2 with 3, the second 0 with 3 and 1 with 2. -/
def pt (t : Bool) (c : Dev nD) : Dev nD :=
  ⟨if t then 3 - c.val else c.val + 1 - 2 * (c.val % 2), by have := c.isLt; change c.val < 4 at this; show _ < 4; split <;> omega⟩

/-- The partner of a device's partner is the device. -/
theorem pt_pt (t : Bool) (c : Dev nD) : pt t (pt t c) = c := by revert t c; decide
/-- So a device is a partner exactly of its own partner. -/
theorem pt_eq_iff (t : Bool) (c d : Dev nD) : pt t d = c ↔ d = pt t c :=
  ⟨fun h => by rw [← h, pt_pt], fun h => by rw [h, pt_pt]⟩
/-- Pairing as a permutation of the devices. -/
def ptE (t : Bool) : Dev nD ≃ Dev nD := ⟨pt t, pt t, pt_pt t, pt_pt t⟩

/-- The first barrier signal goes to the first partner. -/
theorem dev1_eq (c : Dev nD) : (⟨k0_dev1 c, k0_dev1_lt c⟩ : Dev nD) = pt false c := by revert c; decide
/-- The second barrier signal goes to the second partner. -/
theorem dev2_eq (c : Dev nD) : (⟨k0_dev2 c, k0_dev2_lt c⟩ : Dev nD) = pt true c := by revert c; decide
/-- The first copy goes to the first partner. -/
theorem dev3_eq (c : Dev nD) : (⟨k0_dev3 c, k0_dev3_lt c⟩ : Dev nD) = pt false c := by revert c; decide
/-- The second copy goes to the first partner. -/
theorem dev4_eq (c : Dev nD) : (⟨k0_dev4 c, k0_dev4_lt c⟩ : Dev nD) = pt false c := by revert c; decide
/-- The third copy goes to the second partner. -/
theorem dev5_eq (c : Dev nD) : (⟨k0_dev5 c, k0_dev5_lt c⟩ : Dev nD) = pt true c := by revert c; decide
/-- The fourth copy goes to the first partner. -/
theorem dev6_eq (c : Dev nD) : (⟨k0_dev6 c, k0_dev6_lt c⟩ : Dev nD) = pt false c := by revert c; decide
/-- The fifth copy goes to the second partner. -/
theorem dev7_eq (c : Dev nD) : (⟨k0_dev7 c, k0_dev7_lt c⟩ : Dev nD) = pt true c := by revert c; decide
/-- The sixth copy goes to the first partner. -/
theorem dev8_eq (c : Dev nD) : (⟨k0_dev8 c, k0_dev8_lt c⟩ : Dev nD) = pt false c := by revert c; decide
/-- The seventh copy goes to the second partner. -/
theorem dev9_eq (c : Dev nD) : (⟨k0_dev9 c, k0_dev9_lt c⟩ : Dev nD) = pt true c := by revert c; decide
/-- The eighth copy goes to the second partner. -/
theorem dev10_eq (c : Dev nD) : (⟨k0_dev10 c, k0_dev10_lt c⟩ : Dev nD) = pt true c := by revert c; decide

/-! ## The buffers and the cells -/

/-- What stage one sends from, -/
abbrev s1s : Scr := Memref.whole cc0_scratch0
/-- what it lands in, -/
abbrev s1r : Scr := Memref.whole cc0_scratch1
/-- what stage two sends from, -/
abbrev s2s : Scr := Memref.whole cc0_scratch2
/-- and what it lands in. -/
abbrev s2r : Scr := Memref.whole cc0_scratch3

/-- The buffer a stage sends from, -/
abbrev sM (st : Bool) : Scr := match st with | false => s1s | true => s2s
/-- and the one it lands in. -/
abbrev dM (st : Bool) : Scr := match st with | false => s1r | true => s2r

/-- The barrier semaphore. -/
abbrev barS : Sem sig := (SemArray.scalar (sig.barrier 0 rfl) : Sems sig S_).sem

set_option backward.proofsInPublic true in
/-- The DMA semaphore of a copy: of its completion at the sender (`r` false) or of its landing (`r` true). -/
def dsem (r st : Bool) (j : Fin 4) : DmaSem sig :=
  ⟨6 + (if r then 8 else 0) + (if st then 4 else 0) + j.val, by revert r st j; decide⟩

/-- A device's cells: the barrier, and for each stage and slot the completion and the landing of a copy. -/
abbrev CK : Type := Option (Bool × Bool × Fin 4)
/-- The cell of a copy's completion at its sender, -/
abbrev snd (st : Bool) (j : Fin 4) : CK := some (false, st, j)
/-- and the one of its landing. -/
abbrev rcv (st : Bool) (j : Fin 4) : CK := some (true, st, j)

/-- The semaphore of a cell. -/
def csem : CK → SemLoc sig
  | none => .reg barS
  | some (r, st, j) => .dma (dsem r st j)

set_option backward.proofsInPublic true in
/-- Which of the exchange's cells a semaphore is, if any. -/
def kind : SemLoc sig → Option CK
  | .reg s => if s = barS then some none else none
  | .dma q => if 6 ≤ q.val ∧ q.val < 22 then
      some (some (decide (14 ≤ q.val), decide (4 ≤ (q.val - 6) % 8), ⟨(q.val - 6) % 4, Nat.mod_lt _ (by decide)⟩)) else none

/-- A cell is read back from its semaphore, -/
theorem kind_csem (k : CK) : kind (csem k) = some k := by revert k; decide

/-- so two cells never share one. -/
theorem csem_injective : Function.Injective csem := fun k k' h => by
  have := congrArg kind h
  rw [kind_csem, kind_csem] at this
  exact Option.some.inj this

/-- A cell of a device, as a semaphore of the machine. -/
abbrev kcell (ck : Dev nD × CK) : GSem nD τ sig := ((ck.1 : Thread nD τ), csem ck.2)

/-- Different cells of the machine are different semaphores, -/
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- and two are equal only when device and cell both are. -/
theorem kcell_eq_iff (c c' : Dev nD) (k k' : CK) : kcell (c, k) = kcell (c', k') ↔ c = c' ∧ k = k' := by
  rw [kcell_injective.eq_iff, Prod.mk.injEq]

/-- What one slot's copy adds to a DMA semaphore. -/
abbrev N : ℕ := (slot s1r 0).view.dmaCredit
/-- A copy adds something. -/
theorem N_pos : 0 < N := View.dmaCredit_pos _ (by decide)
/-- Every slot of every buffer adds the same. -/
theorem credit_eq (M : Scr) (j : Fin 4) : (slot M j).view.dmaCredit = N := rfl

/-- What a payment of cell `k` adds to it. -/
def amtK : CK → ℕ
  | none => 1
  | some _ => N

/-! ## The schedule -/

variable (X : Bool → Fin 4 → Dev nD → Rows F)

/-- The share of a slot a copy borrows: half in the first stage, where the sent slot is read again, all in the second. -/
def lend : Bool → PosShare TreeShare
  | false => fullShare.left
  | true => fullShare

/-- The four slots of a buffer, at whatever they hold. -/
def slots4 (M : Scr) (c : Dev nD) : sProp 𝕄 := iprop(slotAny M c 0 ∗ slotAny M c 1 ∗ slotAny M c 2 ∗ slotAny M c 3)

/-- Four slots may be kept in an invariant. -/
instance slots4_storable (M : Scr) (c : Dev nD) : BI.Storable (upEmb : UEmb _ 𝕄) (slots4 (F := F) M c) := by
  unfold slots4; infer_instance

/-- What a payment of duty `d` of device `c`'s cell `k` hands `c`. -/
def pay (c : Dev nD) (d : Bool) : CK → sProp 𝕄
  | none => slots4 (dM d) (pt d c)
  | some (false, st, j) => slotPt (sM st) c j (lend st) (X st j c)
  | some (true, st, j) => slotPt (dM st) c j fullShare (X st j (pt st c))

/-- What a payment hands over may be kept in an invariant. -/
instance pay_storable (c : Dev nD) (d : Bool) (k : CK) : BI.Storable (upEmb : UEmb _ 𝕄) (pay X c d k) := by
  unfold pay; split <;> infer_instance

/-- The duties of a cell: the barrier is paid by both partners, every other cell by one copy. -/
def dutK : CK → Finset Bool
  | none => Finset.univ
  | some _ => {false}

/-- One round, round 0, of every cell. -/
def Rd : Rounds.Schedule (GSem nD τ sig) Bool 𝕄 where
  duties g r := if r = 0 ∧ g.1.2 = .tc then (kind g.2).elim ∅ dutK else ∅
  unitless _ := False
  amount g _ _ := (kind g.2).elim 1 amtK
  payload g _ d := (kind g.2).elim iprop(emp) (pay X g.1.1 d)
  amount_pos g _ _ _ := by
    rcases kind g.2 with _ | _ | _
    · exact Nat.one_pos
    · exact Nat.one_pos
    · exact N_pos

/-- So may the schedule's payloads. -/
instance Rd_payload_storable (g : GSem nD τ sig) (r : ℕ) (d : Bool) :
    BI.Storable (upEmb : UEmb _ 𝕄) ((Rd X).payload g r d) := by
  show BI.Storable upEmb ((kind g.2).elim iprop(emp) (pay X g.1.1 d))
  cases kind g.2 <;> simp only [Option.elim] <;> infer_instance

section Tables
variable (c : Dev nD) (k : CK)

/-- The duties of a cell's round, -/
theorem duties_eq : (Rd X).duties (kcell (c, k)) 0 = dutK k := by
  dsimp only [Rd]; rw [if_pos ⟨rfl, rfl⟩, kind_csem]; rfl
/-- there being none in later rounds, -/
theorem duties_later (g : GSem nD τ sig) : ∀ r, 1 ≤ r → (Rd X).duties g r = ∅ :=
  fun r hr => by dsimp only [Rd]; rw [if_neg fun h => by omega]
/-- what each adds, -/
theorem amount_eq (d : Bool) : (Rd X).amount (kcell (c, k)) 0 d = amtK k := by
  dsimp only [Rd]; rw [kind_csem]; rfl
/-- and what each hands over. -/
theorem payload_eq (d : Bool) : (Rd X).payload (kcell (c, k)) 0 d = pay X c d k := by
  dsimp only [Rd]; rw [kind_csem]; rfl

/-- The barrier expects one signal from each partner; -/
theorem expect_bar : (Rd X).expect (kcell (c, none)) 0 = 2 := by
  unfold Schedule.expect Schedule.amountOf
  rw [duties_eq, Finset.sum_congr rfl fun d _ => amount_eq X c none d]; rfl
/-- every other cell expects one copy. -/
theorem expect_dma (k : Bool × Bool × Fin 4) : (Rd X).expect (kcell (c, some k)) 0 = N := by
  unfold Schedule.expect Schedule.amountOf
  rw [duties_eq, dutK, Finset.sum_singleton, amount_eq]; rfl

/-- What a device's barrier round hands it: both partners' landing slots. -/
theorem rest_bar : bigSep ((Rd X).duties (kcell (c, none)) 0 \ ∅) (fun d => (Rd X).payload (kcell (c, none)) 0 d)
    = iprop(slots4 (dM false) (pt false c) ∗ slots4 (dM true) (pt true c)) := by
  rw [Finset.sdiff_empty, duties_eq, dutK, bigSep_univ_eq_bigSepL [false, true] (by decide) (by decide), bigSepL_cons_cons,
    bigSepL_singleton, payload_eq, payload_eq]
  rfl
/-- All that is left to collect from a copy's cell is what that copy hands over. -/
theorem rest_dma (k : Bool × Bool × Fin 4) :
    bigSep ((Rd X).duties (kcell (c, some k)) 0 \ ∅) (fun d => (Rd X).payload (kcell (c, some k)) 0 d) = pay X c false (some k) := by
  rw [Finset.sdiff_empty, duties_eq, dutK, bigSep_singleton, payload_eq]

end Tables

/-! ## What is owed, and in which order -/

/-- An item of a device's debt: a payment of cell `k` of its partner of stage `t`. -/
abbrev Item : Type := Bool × CK

/-- The cell an item pays. -/
abbrev dcell (c : Dev nD) (i : Item) : GSem nD τ sig := kcell (pt i.1 c, i.2)

/-- A list of items as a debt, its head the summand the next payment takes off. -/
def debt (c : Dev nD) : List Item → CellTallies nD τ sig Unit
  | [] => 0
  | i :: l => debt c l + tallyAt (dcell c i) () (amtK i.2)

/-- All of a device's payments to its partners, in program order. -/
def items : List Item :=
  [(false, none), (true, none), (false, rcv false 0), (false, rcv false 1), (true, rcv true 0), (false, rcv false 2),
    (true, rcv true 1), (false, rcv false 3), (true, rcv true 2), (true, rcv true 3)]

/-- The order of the waits: the barrier first, then each slot's landing in stage one, then in stage two. -/
def lvK : CK → ℕ
  | none => 1
  | some (false, _, _) => 0
  | some (true, st, j) => 2 * j.val + 2 + (if st then 1 else 0)

/-- The cells that take part in the order of the waits, -/
def L (g : GSem nD τ sig) : Finset Unit := if g.1.2 = .tc then {()} else ∅
/-- and the place of each in it. -/
def lv (g : GSem nD τ sig) (_ : Unit) : ℕ := (kind g.2).elim 0 lvK

/-- Only the devices' main cores have any, -/
theorem L_of_ne (g : GSem nD τ sig) (h : g.1.2 ≠ .tc) : L g = ∅ := if_neg h
/-- and those have all of theirs. -/
theorem L_tc (c : Dev nD) (sm : SemLoc sig) : L ((c : Thread nD τ), sm) = {()} := if_pos rfl
/-- The place of one of the exchange's cells. -/
theorem lv_kcell (c : Dev nD) (k : CK) (u : Unit) : lv (kcell (c, k)) u = lvK k := by
  unfold lv; rw [kind_csem]; rfl

/-- A debt to a cell comes from one of its items. -/
theorem debt_pos {c : Dev nD} {l : List Item} {g : GSem nD τ sig} {u : Unit} (h : 0 < debt c l g u) :
    ∃ i ∈ l, g = dcell c i := by
  induction l with
  | nil => exact absurd h (Nat.lt_irrefl 0)
  | cons i l ih =>
    rw [debt, Pi.add_apply, Finsupp.add_apply, tallyAt_apply] at h
    by_cases hg : g = dcell c i
    · exact ⟨i, List.mem_cons_self, hg⟩
    · rw [if_neg fun h' => hg h'.1, Nat.add_zero] at h
      obtain ⟨i', hi', e⟩ := ih h
      exact ⟨i', List.mem_cons_of_mem _ hi', e⟩

/-- A device may wait on a cell below everything it owes. -/
theorem mayWait (c : Dev nD) (sm : SemLoc sig) (n : ℕ) (hn : (kind sm).elim 0 lvK = n) (l : List Item) (h : ∀ i ∈ l, n < lvK i.2) :
    (levAts L lv : sProp 𝕄) ⊢ MayWait (c : Thread nD τ) sm () (debt c l) :=
  MayOwe.of_cut (L := L) (lev := lv) n (fun p hp => by rw [Finset.mem_singleton.mp hp, L_tc]; exact Finset.mem_singleton_self _)
    (fun g u hg => by obtain ⟨i, _, rfl⟩ := debt_pos hg; rw [L_tc]; exact Finset.mem_singleton_self _)
    (fun p hp => by rw [Finset.mem_singleton.mp hp]; exact le_of_eq hn)
    (fun g u hg => by obtain ⟨i, hi, rfl⟩ := debt_pos hg; rw [lv_kcell]; exact h i hi)

/-- The whole mesh's debt on one cell: once for each item naming it. -/
theorem debt_sum (c : Dev nD) (k : CK) (l : List Item) :
    (Finset.univ.sum fun d : Dev nD => debt d l (kcell (c, k)) ()) = l.countP (fun i => i.2 = k) * amtK k := by
  induction l with
  | nil => exact Finset.sum_const_zero.trans (Nat.zero_mul _).symm
  | cons i l ih =>
    have e (d : Dev nD) : debt d (i :: l) (kcell (c, k)) () = debt d l (kcell (c, k)) () + if d = pt i.1 c then (if i.2 = k then amtK k else 0) else 0 := by
      rw [debt, Pi.add_apply, Finsupp.add_apply, tallyAt_apply]
      congr 1
      by_cases h1 : d = pt i.1 c
      · subst h1
        by_cases h2 : i.2 = k
        · subst h2; rw [if_pos ⟨by rw [dcell, pt_pt], rfl⟩, if_pos rfl, if_pos rfl]
        · rw [if_neg fun h => h2 ((kcell_eq_iff _ _ _ _).mp h.1).2.symm, if_pos rfl, if_neg h2]
      · rw [if_neg fun h => h1 ((pt_eq_iff _ _ _).mp ((kcell_eq_iff _ _ _ _).mp h.1).1.symm), if_neg h1]
    rw [Finset.sum_congr rfl fun d _ => e d, Finset.sum_add_distrib, ih, Finset.sum_ite_eq' Finset.univ (pt i.1 c), if_pos (Finset.mem_univ _),
      List.countP_cons, Nat.add_mul]
    congr 1
    by_cases h2 : i.2 = k <;> simp [h2]

/-- What a device owes, whatever it has waited for. -/
def owesX (c : Dev nD) (l : List Item) : sProp 𝕄 := iprop(∃ W, owes (c : Thread nD τ) (debt c l) W)

/-! ## The records every device shares, and the bundles of one copy -/

/-- Every cell's invariant, and that its round has begun. -/
def records (K : Dev nD × CK → ℕ) : sProp 𝕄 :=
  iprop((bigSep Finset.univ fun ck : Dev nD × CK => cellInv ER (Rd X) (K ck) (kcell ck))
    ∗ bigSep Finset.univ fun ck : Dev nD × CK => reached ER (kcell ck) 0)

/-- The records can be used again and again. -/
instance records_persistent (K : Dev nD × CK → ℕ) : BI.Persistent (records X K) := by unfold records; infer_instance

/-- One cell's invariant among all of them, -/
theorem inv_at (K : Dev nD × CK → ℕ) (ck : Dev nD × CK) :
    (bigSep Finset.univ fun ck : Dev nD × CK => (cellInv ER (Rd X) (K ck) (kcell ck) : sProp 𝕄)) ⊢ cellInv ER (Rd X) (K ck) (kcell ck) :=
  bigSep_elim (Finset.mem_univ ck)
/-- and one cell's round among all of them. -/
theorem reached_at (ck : Dev nD × CK) :
    (bigSep Finset.univ fun ck : Dev nD × CK => (reached ER (kcell ck) 0 : sProp 𝕄)) ⊢ reached ER (kcell ck) 0 :=
  bigSep_elim (Finset.mem_univ ck)

/-- The records give any cell's invariant, -/
theorem records_inv (K : Dev nD × CK → ℕ) (ck : Dev nD × CK) : records X K ⊢ cellInv ER (Rd X) (K ck) (kcell ck) := by
  unfold records
  iintro ⟨H, -⟩
  iapply (inv_at X K ck)
  iexact H
/-- and that its round has begun. -/
theorem records_reached (K : Dev nD × CK → ℕ) (ck : Dev nD × CK) : records X K ⊢ reached ER (kcell ck) 0 := by
  unfold records
  iintro ⟨-, H⟩
  iapply (reached_at (F := F) ck)
  iexact H

/-- What is known throughout: the records and the order of the waits. -/
def ctx (K : Dev nD × CK → ℕ) : sProp 𝕄 := iprop(records X K ∗ levAts L lv)
/-- That, too, can be used again and again. -/
instance ctx_persistent (K : Dev nD × CK → ℕ) : BI.Persistent (ctx X K) := by unfold ctx; infer_instance

/-- Before a copy: its two positions, its two duty tokens, and the credit of the landing it will wait for. -/
def T0 (c : Dev nD) (st : Bool) (j : Fin 4) : sProp 𝕄 :=
  iprop(atPos ER (kcell (c, snd st j)) 0 ∅ 0 ∗ atPos ER (kcell (c, rcv st j)) 0 ∅ 0
    ∗ dutyTok ER (kcell (c, snd st j)) 0 false ∗ dutyTok ER (kcell (pt st c, rcv st j)) 0 false
    ∗ cred (tallyAt (kcell (c, rcv st j)) () N))
/-- After it is issued; -/
def T1 (c : Dev nD) (st : Bool) (j : Fin 4) : sProp 𝕄 :=
  iprop(atPos ER (kcell (c, snd st j)) 0 ∅ 0 ∗ atPos ER (kcell (c, rcv st j)) 0 ∅ 0
    ∗ cred (tallyAt (kcell (c, rcv st j)) () N) ∗ cred (tallyAt (kcell (c, snd st j)) () N))
/-- after the partner's copy has landed here; -/
def T2 (c : Dev nD) (st : Bool) (j : Fin 4) : sProp 𝕄 :=
  iprop(atPos ER (kcell (c, snd st j)) 0 ∅ 0 ∗ atPos ER (kcell (c, rcv st j)) 1 ∅ 0
    ∗ cred (tallyAt (kcell (c, snd st j)) () N))
/-- after its own copy is complete. -/
def T3 (c : Dev nD) (st : Bool) (j : Fin 4) : sProp 𝕄 :=
  iprop(atPos ER (kcell (c, snd st j)) 1 ∅ 0 ∗ atPos ER (kcell (c, rcv st j)) 1 ∅ 0)

/-! ## The steps -/

variable (K : Dev nD × CK → ℕ) (c : Dev nD)

/-- The signal of a partner's barrier hands it this device's landing slots of that stage. -/
theorem step_signal (t : Bool) (n : Dev nD) (hn : n = pt t c) (l : List Item)
    {α : Type} {Q : α → sProp 𝕄} {k : PUnit → Prog (TpuEff nD τ sig (Elt F) Λ₀ .tc) α} :
    iprop(ctx X K ∗ owesX c ((t, none) :: l) ∗ dutyTok ER (kcell (pt t c, none)) 0 t ∗ slots4 (dM t) c)
      ⊢ iprop((owesX c l -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n : Thread nD τ) barS 1) k) Q) := by
  subst hn
  unfold ctx owesX
  iintro ⟨⟨#HR, -⟩, ⟨%W, HO⟩, Ht, Hs⟩ Hk
  iapply (Rounds.wp_signal 𝒱₀ ER (Rd X) (c : Thread nD τ) none (dst := (pt t c : Thread nD τ)) (sem := barS) (κ := K (pt t c, none))
      (d := t) (r := 0) (k' := 1) (k := k)
      (by rw [show ((pt t c : Thread nD τ), SemLoc.reg barS) = kcell (pt t c, none) from rfl, duties_eq]; exact Finset.mem_univ _)
      (amount_eq X (pt t c) none t) () (O₀ := debt c ((t, none) :: l)) (debt c l) rfl (W := W)) $$ [HO Ht Hs]
  · rw [show ((pt t c : Thread nD τ), SemLoc.reg barS) = kcell (pt t c, none) from rfl]
    isplitr; · iapply (records_inv X K (pt t c, none)); iexact HR
    isplitl [HO]; · iexact HO
    isplitl [Ht]; · iexact Ht
    isplitl [Hs]
    · iapply (Entails.of_eq (show slots4 (dM t) c = (Rd X).payload (kcell (pt t c, none)) 0 t from by rw [payload_eq, pay, pt_pt])); iexact Hs
    · iapply (records_reached X K (pt t c, none)); iexact HR
  iintro HO
  iapply Hk
  iexists W; iexact HO

/-- The wait on the own barrier hands over both partners' landing slots. -/
theorem step_barrier (l : List Item) (hl : ∀ i ∈ l, 1 < lvK i.2)
    {α : Type} {Q : α → sProp 𝕄} {k : PUnit → Prog (TpuEff nD τ sig (Elt F) Λ₀ .tc) α} :
    iprop(ctx X K ∗ owesX c l ∗ cred (tallyAt (kcell (c, none)) () 2) ∗ atPos ER (kcell (c, none)) 0 ∅ 0)
      ⊢ iprop((iprop(owesX c l ∗ atPos ER (kcell (c, none)) 1 ∅ 0 ∗ slots4 (dM false) (pt false c) ∗ slots4 (dM true) (pt true c))
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS 2) k) Q) := by
  unfold ctx owesX
  iintro ⟨⟨#HR, #Hlev⟩, ⟨%W, HO⟩, Hc, Hat⟩ Hk
  iapply (Rounds.wp_wait_rest_token 𝒱₀ ER (Rd X) (c : Thread nD τ) none (sm := SemLoc.reg barS) (κ := K (c, none)) (k' := 2) (k := k)
      (wpE_semWait_eq 𝒱₀ (c : Thread nD τ) none Set.univ) (Set.mem_univ _) () (O := debt c l) (W := W) (R := 0) (m := 0) (T := ∅)
      (by rw [Nat.zero_add]; exact (expect_bar X c).symm)) $$ [HO Hc Hat]
  · rw [show ((c : Thread nD τ), SemLoc.reg barS) = kcell (c, none) from rfl]
    isplitr; · iapply (records_inv X K (c, none)); iexact HR
    isplitl [Hc]; · iexact Hc
    isplitl [HO]; · iexact HO
    isplitr; · iapply (mayWait c (csem none) 1 (by rw [kind_csem]; rfl) l hl); iexact Hlev
    iexact Hat
  rw [show ((c : Thread nD τ), SemLoc.reg barS) = kcell (c, none) from rfl]
  iintro ⟨HO, Hat, -, Hpay⟩
  ihave Hp := (Entails.of_eq (rest_bar X c)) $$ Hpay
  icases Hp with ⟨H1, H2⟩
  iapply Hk
  isplitl [HO]; · iexists _; iexact HO
  isplitl [Hat]; · iexact Hat
  isplitl [H1] <;> iassumption

/-- A wait on a DMA cell hands over what its copy's landing, or completion, pays. -/
theorem step_wait (kk : Bool × Bool × Fin 4) (q : DmaSem sig) (hq : SemLoc.dma q = csem (some kk)) (l : List Item) (hl : ∀ i ∈ l, lvK (some kk) < lvK i.2)
    {s : Shape} {sp sp' : Space} {src : Memref sig .tc sp s .bf16} {dst : Memref sig .tc sp' s .bf16} {h1 : src.view.WordExact} {h2 : dst.view.WordExact}
    (hN : dst.view.dmaCredit = N)
    {α : Type} {Q : α → sProp 𝕄} {k : PUnit → Prog (TpuEff nD τ sig (Elt F) Λ₀ .tc) α} :
    iprop(ctx X K ∗ owesX c l ∗ cred (tallyAt (kcell (c, some kk)) () N) ∗ atPos ER (kcell (c, some kk)) 0 ∅ 0)
      ⊢ iprop((iprop(owesX c l ∗ atPos ER (kcell (c, some kk)) 1 ∅ 0 ∗ pay X c false (some kk))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q src dst h1 h2) k) Q) := by
  unfold ctx owesX
  iintro ⟨⟨#HR, #Hlev⟩, ⟨%W, HO⟩, Hc, Hat⟩ Hk
  have hc : ((c : Thread nD τ), SemLoc.dma q) = kcell (c, some kk) := by rw [hq]
  iapply (Rounds.wp_wait_rest_token 𝒱₀ ER (Rd X) (c : Thread nD τ) none (sm := SemLoc.dma q) (κ := K (c, some kk)) (k := k)
      (wpE_waitDma2_eq 𝒱₀ (c : Thread nD τ) none Set.univ) (Set.mem_univ _) () (O := debt c l) (W := W) (R := 0) (m := 0) (T := ∅)
      (by rw [Nat.zero_add, hN, hc]; exact (expect_dma X c kk).symm)) $$ [HO Hc Hat]
  · rw [hc, hN, hq]
    isplitr; · iapply (records_inv X K (c, some kk)); iexact HR
    isplitl [Hc]; · iexact Hc
    isplitl [HO]; · iexact HO
    isplitr; · iapply (mayWait c (csem (some kk)) (lvK (some kk)) (by rw [kind_csem]; rfl) l hl); iexact Hlev
    iexact Hat
  rw [hc]
  iintro ⟨HO, Hat, -, Hpay⟩
  ihave Hp := (Entails.of_eq (rest_dma X c kk)) $$ Hpay
  iapply Hk
  isplitl [HO]; · iexists _; iexact HO
  isplitl [Hat]; · iexact Hat
  iexact Hp

/-- A copy of slot `j` in stage `st` onto the partner's. -/
theorem step_copy (st : Bool) (j : Fin 4) (n : Dev nD) (hn : n = pt st c) (q q' : DmaSem sig)
    (hq : SemLoc.dma q = csem (snd st j)) (hq' : SemLoc.dma q' = csem (rcv st j)) (l : List Item)
    {hsc : (slot (dM st) j).view.ref.isScScratch = false} {h1 : (slot (sM st) j).view.WordExact} {h2 : (slot (dM st) j).view.WordExact}
    {h3 : DmaTarget.Typed .vmem (.dma q') (.remote (Dev.tc n : Thread nD τ) (slot (dM st) j) (.dma q) hsc)}
    {α : Type} {Q : α → sProp 𝕄} {k : PUnit → Prog (TpuEff nD τ sig (Elt F) Λ₀ .tc) α} :
    iprop(ctx X K ∗ owesX c ((st, rcv st j) :: l) ∗ T0 c st j ∗ slotAny (dM st) (pt st c) j ∗ slotPt (sM st) c j (lend st) (X st j c))
      ⊢ iprop((iprop(owesX c l ∗ T1 c st j) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (slot (sM st) j) (.remote (Dev.tc n : Thread nD τ) (slot (dM st) j) (.dma q) hsc) (.dma q') h1 h2 h3) k) Q) := by
  subst hn
  unfold ctx owesX T0 T1 slotAny slotPt
  iintro ⟨⟨#HR, -⟩, ⟨%W, HO⟩, ⟨HaS, HaR, HtS, HtR, HcR⟩, ⟨%Y, %fd, -, Hd⟩, ⟨%fs, %hfs, Hs⟩⟩ Hk
  have hc : ((c : Thread nD τ), SemLoc.dma q) = kcell (c, snd st j) := by rw [hq]
  have hc' : ((pt st c : Thread nD τ), SemLoc.dma q') = kcell (pt st c, rcv st j) := by rw [hq']
  iapply (Rounds.wp_send_pointsTo 𝒱₀ ER (Rd X) (c : Thread nD τ) none (c' := (pt st c : Thread nD τ)) (κ₁ := K (c, snd st j)) (κ₂ := K (pt st c, rcv st j))
    (src := slot (sM st) j) (dst := slot (dM st) j) (sS := .dma q) (sem := .dma q') (k := k) (q := lend st) (fs := fs)
    (r₁ := 0) (r₂ := 0) (d₁ := false) (d₂ := false) (fd := fd)
    (by rw [hc, duties_eq]; exact Finset.mem_singleton_self _) (by rw [hc', duties_eq]; exact Finset.mem_singleton_self _)
    () () N rfl (by rw [hc, amount_eq]; rfl) (by rw [hc', amount_eq]; rfl) (O₀ := debt c ((st, rcv st j) :: l)) (debt c l)
    (by rw [hc']; rfl) (W := W)
    (by
      rw [hc, payload_eq, pay, slotPt, slot_set]
      iintro H; iexists fs; isplitr; · ipureintro; exact hfs
      iexact H)
    (by
      rw [hc', payload_eq, pay, slotPt, slot_set, pt_pt]
      iintro H
      iexists _
      isplitr; swap; · iexact H
      ipureintro
      rw [← hfs]
      exact read_after_copy (sM st) (dM st) j fs fd)) $$ [HO HtS HtR Hd Hs]
  · rw [hc, hc', slot_set, slot_set]
    isplitr; · iapply (records_inv X K (c, snd st j)); iexact HR
    isplitr; · iapply (records_inv X K (pt st c, rcv st j)); iexact HR
    isplitl [Hs]; · iexact Hs
    isplitl [Hd]; · iexact Hd
    isplitl [HO]; · iexact HO
    isplitl [HtS]; · iexact HtS
    isplitr; · iapply (records_reached X K (c, snd st j)); iexact HR
    isplitl [HtR]; · iexact HtR
    iapply (records_reached X K (pt st c, rcv st j)); iexact HR
  rw [hc]
  iintro ⟨HcS, HO⟩
  iapply Hk
  isplitl [HO]; · iexists W; iexact HO
  isplitl [HaS]; · iexact HaS
  isplitl [HaR]; · iexact HaR
  isplitl [HcR] <;> iassumption

end Cert.Exchange
-- ==== Proof.Steps.lean ====
/-
The steps of the body, as the program spells them.

The rules of the protocol and of the slots restated with the offsets, memrefs and semaphores the program prints as
variables with equations, and the staged inputs held together.
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The staged inputs of every device. -/
structure Ins (F : FTy → Type) where
  x : Dev nD → (cc0_stg0_0 : Ref sig .tc).ty.Contents (Elt F)
  wq : Dev nD → (cc0_stg1_0 : Ref sig .tc).ty.Contents (Elt F)
  k : Dev nD → (cc0_stg2_0 : Ref sig .tc).ty.Contents (Elt F)
  v : Dev nD → (cc0_stg3_0 : Ref sig .tc).ty.Contents (Elt F)
  wo : Dev nD → (cc0_stg4_0 : Ref sig .tc).ty.Contents (Elt F)

/-- Device `c` holds its five staged inputs. -/
def ins (I : Ins F) (c : Dev nD) : sProp 𝕄 :=
  iprop((((c : Thread nD τ).loc cc0_stg0_0) ↦{fullShare} I.x c) ∗ (((c : Thread nD τ).loc cc0_stg1_0) ↦{fullShare} I.wq c)
    ∗ (((c : Thread nD τ).loc cc0_stg2_0) ↦{fullShare} I.k c) ∗ (((c : Thread nD τ).loc cc0_stg3_0) ↦{fullShare} I.v c)
    ∗ (((c : Thread nD τ).loc cc0_stg4_0) ↦{fullShare} I.wo c))

/-! ## What the loads of the inputs read -/

/-- The rows of `x` of one slot, -/
abbrev rX (r : Fin 2 × Fin 2) : LoadRect S2x256x512 := (Rect.unit (s := S2x256x512) ![r.1.val, 128 * r.2.val, 0] S1x128x512.size (by revert r; decide)).toLoadRect
/-- one batch element of the keys or of the values, -/
abbrev rKV (b : Fin 2) : LoadRect S2x256x4x64 := (Rect.unit (s := S2x256x4x64) ![b.val, 0, 0, 0] S1x256x4x64.size (by revert b; decide)).toLoadRect
/-- the device's columns of `Wq`, -/
abbrev rWq (c : Dev nD) : LoadRect S512x1024 := (Rect.unit (s := S512x1024) (k0_off1 c) S512x256.size (k0_off1_inb c)).toLoadRect
/-- and its rows of `Wo`. -/
abbrev rWo (c : Dev nD) : LoadRect S1024x512 := (Rect.unit (s := S1024x512) (k0_off2 c) S256x512.size (k0_off2_inb c)).toLoadRect

variable (X : Bool → Fin 4 → Dev nD → Rows F) (K : Dev nD × CK → ℕ) (c : Dev nD)

/-- A load of a slot reads what the slot holds and leaves it held. -/
theorem ld (M : Scr) (j : Fin 4) (q : PosShare TreeShare) (Y : Rows F) (off : Fin 3 → ℕ) (hoff : off = ![j.val, 0, 0])
    {inb : ∀ a, off a + S1x128x512.size a ≤ S4x128x512.size a}
    {hl : M.view.LoadsAt (Rect.unit (s := S4x128x512) off S1x128x512.size inb).toLoadRect} {α : Type} {Q : α → sProp 𝕄}
    {k : Rows F → Prog (TpuEff nD τ sig (Elt F) Λ₀ .tc) α} :
    slotPt M c j q Y ⊢ iprop((slotPt M c j q Y -∗ wp frame (wpE (defs₀ (F := F)) 𝒱₀ (c : Thread nD τ) none) Set.univ (k Y) Q)
      -∗ wp frame (wpE (defs₀ (F := F)) 𝒱₀ (c : Thread nD τ) none) Set.univ (.op (.load M (Rect.unit (s := S4x128x512) off S1x128x512.size inb).toLoadRect hl) k) Q) := by
  subst hoff
  exact wp_ld M c j q Y

/-- A load whose value the program does not use, -/
theorem ldAny (M : Scr) (j : Fin 4) (off : Fin 3 → ℕ) (hoff : off = ![j.val, 0, 0])
    {inb : ∀ a, off a + S1x128x512.size a ≤ S4x128x512.size a}
    {hl : M.view.LoadsAt (Rect.unit (s := S4x128x512) off S1x128x512.size inb).toLoadRect} {α : Type} {Q : α → sProp 𝕄}
    {p : Prog (TpuEff nD τ sig (Elt F) Λ₀ .tc) α} :
    slotAny M c j ⊢ iprop((slotAny M c j -∗ wp frame (wpE (defs₀ (F := F)) 𝒱₀ (c : Thread nD τ) none) Set.univ p Q)
      -∗ wp frame (wpE (defs₀ (F := F)) 𝒱₀ (c : Thread nD τ) none) Set.univ (.op (.load M (Rect.unit (s := S4x128x512) off S1x128x512.size inb).toLoadRect hl) fun _ => p) Q) := by
  unfold slotAny
  iintro ⟨%Y, H⟩ Hk
  iapply (ld c M j fullShare Y off hoff) $$ H
  iintro H
  iapply Hk
  iexists Y; iexact H

/-- and a store of a slot. -/
theorem st (M : Scr) (j : Fin 4) (w : Rows F) (off : Fin 3 → ℕ) (hoff : off = ![j.val, 0, 0])
    {inb : ∀ a, off a + S1x128x512.size a ≤ S4x128x512.size a}
    {hx : (M.access (Rect.unit (s := S4x128x512) off S1x128x512.size inb)).Stores Finset.univ}
    {hm : (Finset.univ : Finset (Rect.unit (s := S4x128x512) off S1x128x512.size inb).shape.Idx) = Finset.univ ∨ ∀ a, (Rect.unit (s := S4x128x512) off S1x128x512.size inb).stride a = 1}
    {α : Type} {Q : α → sProp 𝕄} {k : PUnit → Prog (TpuEff nD τ sig (Elt F) Λ₀ .tc) α} :
    slotAny M c j ⊢ iprop((slotPt M c j fullShare w -∗ wp frame (wpE (defs₀ (F := F)) 𝒱₀ (c : Thread nD τ) none) Set.univ (k ⟨⟩) Q)
      -∗ wp frame (wpE (defs₀ (F := F)) 𝒱₀ (c : Thread nD τ) none) Set.univ
        (.op (.store M (Rect.unit (s := S4x128x512) off S1x128x512.size inb) w Finset.univ hx hm) k) Q) := by
  subst hoff
  unfold slotAny
  iintro ⟨%Y, H⟩ Hk
  iapply (wp_st M c j Y w) $$ H
  iexact Hk

/-- A copy, its two memrefs as printed. -/
theorem copy (st : Bool) (j : Fin 4) (n : Dev nD) (hn : n = pt st c) (q q' : DmaSem sig)
    (src dst : Memref sig .tc .vmem S128x512 .bf16) (hs : src = slot (sM st) j) (hd : dst = slot (dM st) j)
    (hq : SemLoc.dma q = csem (snd st j)) (hq' : SemLoc.dma q' = csem (rcv st j)) (l : List Item)
    {hsc : dst.view.ref.isScScratch = false} {h1 : src.view.WordExact} {h2 : dst.view.WordExact}
    {h3 : DmaTarget.Typed .vmem (.dma q') (.remote (Dev.tc n : Thread nD τ) dst (.dma q) hsc)}
    {α : Type} {Q : α → sProp 𝕄} {k : PUnit → Prog (TpuEff nD τ sig (Elt F) Λ₀ .tc) α} :
    iprop(ctx X K ∗ owesX c ((st, rcv st j) :: l) ∗ T0 c st j ∗ slotAny (dM st) (pt st c) j ∗ slotPt (sM st) c j (lend st) (X st j c))
      ⊢ iprop((iprop(owesX c l ∗ T1 c st j) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma src (.remote (Dev.tc n : Thread nD τ) dst (.dma q) hsc) (.dma q') h1 h2 h3) k) Q) := by
  subst hs hd
  exact step_copy X K c st j n hn q q' hq hq' l

/-- The first stage's copy, the slot held whole: the half not lent stays. -/
theorem copy1 (j : Fin 4) (n : Dev nD) (hn : n = pt false c) (q q' : DmaSem sig)
    (src dst : Memref sig .tc .vmem S128x512 .bf16) (hs : src = slot s1s j) (hd : dst = slot s1r j)
    (hq : SemLoc.dma q = csem (snd false j)) (hq' : SemLoc.dma q' = csem (rcv false j)) (l : List Item)
    {hsc : dst.view.ref.isScScratch = false} {h1 : src.view.WordExact} {h2 : dst.view.WordExact}
    {h3 : DmaTarget.Typed .vmem (.dma q') (.remote (Dev.tc n : Thread nD τ) dst (.dma q) hsc)}
    {α : Type} {Q : α → sProp 𝕄} {k : PUnit → Prog (TpuEff nD τ sig (Elt F) Λ₀ .tc) α} :
    iprop(ctx X K ∗ owesX c ((false, rcv false j) :: l) ∗ T0 c false j ∗ slotAny s1r (pt false c) j ∗ slotPt s1s c j fullShare (X false j c))
      ⊢ iprop((iprop(owesX c l ∗ T1 c false j ∗ slotPt s1s c j fullShare.right (X false j c)) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma src (.remote (Dev.tc n : Thread nD τ) dst (.dma q) hsc) (.dma q') h1 h2 h3) k) Q) := by
  iintro ⟨#HC, HO, HT, Hd, Hs⟩ Hk
  ihave H2 := (slot_halve s1s c j (X false j c)) $$ Hs
  icases H2 with ⟨Hl, Hr⟩
  iapply (copy X K c false j n hn q q' src dst hs hd hq hq' l) $$ [HO HT Hd Hl]
  · isplitr; · iexact HC
    isplitl [HO]; · iexact HO
    isplitl [HT]; · iexact HT
    isplitl [Hd]; · iexact Hd
    iexact Hl
  iintro ⟨HO, HT⟩
  iapply Hk
  isplitl [HO]; · iexact HO
  isplitl [HT]; · iexact HT
  iexact Hr

/-- The second stage's copy lends the whole slot. -/
theorem copy2 (j : Fin 4) (n : Dev nD) (hn : n = pt true c) (q q' : DmaSem sig)
    (src dst : Memref sig .tc .vmem S128x512 .bf16) (hs : src = slot s2s j) (hd : dst = slot s2r j)
    (hq : SemLoc.dma q = csem (snd true j)) (hq' : SemLoc.dma q' = csem (rcv true j)) (l : List Item)
    {hsc : dst.view.ref.isScScratch = false} {h1 : src.view.WordExact} {h2 : dst.view.WordExact}
    {h3 : DmaTarget.Typed .vmem (.dma q') (.remote (Dev.tc n : Thread nD τ) dst (.dma q) hsc)}
    {α : Type} {Q : α → sProp 𝕄} {k : PUnit → Prog (TpuEff nD τ sig (Elt F) Λ₀ .tc) α} :
    iprop(ctx X K ∗ owesX c ((true, rcv true j) :: l) ∗ T0 c true j ∗ slotAny s2r (pt true c) j ∗ slotPt s2s c j fullShare (X true j c))
      ⊢ iprop((iprop(owesX c l ∗ T1 c true j) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma src (.remote (Dev.tc n : Thread nD τ) dst (.dma q) hsc) (.dma q') h1 h2 h3) k) Q) :=
  copy X K c true j n hn q q' src dst hs hd hq hq' l

/-- The wait for the partner's copy: its slot, holding what the partner sent. -/
theorem landed (st : Bool) (j : Fin 4) (q : DmaSem sig) (hq : SemLoc.dma q = csem (rcv st j)) (l : List Item) (hl : ∀ i ∈ l, lvK (rcv st j) < lvK i.2)
    {src dst : Memref sig .tc .vmem S128x512 .bf16} {h1 : src.view.WordExact} {h2 : dst.view.WordExact}
    (hN : dst.view.dmaCredit = N)
    {α : Type} {Q : α → sProp 𝕄} {k : PUnit → Prog (TpuEff nD τ sig (Elt F) Λ₀ .tc) α} :
    iprop(ctx X K ∗ owesX c l ∗ T1 c st j)
      ⊢ iprop((iprop(owesX c l ∗ T2 c st j ∗ slotPt (dM st) c j fullShare (X st j (pt st c)))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q src dst h1 h2) k) Q) := by
  unfold T1 T2
  iintro ⟨#HC, HO, HaS, HaR, HcR, HcS⟩ Hk
  iapply (step_wait X K c (true, st, j) q hq l hl hN) $$ [HO HaR HcR]
  · isplitr; · iexact HC
    isplitl [HO]; · iexact HO
    isplitl [HcR] <;> iassumption
  iintro ⟨HO, HaR, Hp⟩
  iapply Hk
  isplitl [HO]; · iexact HO
  isplitl [HaS HaR HcS]
  · isplitl [HaS]; · iexact HaS
    isplitl [HaR] <;> iassumption
  iapply (Entails.of_eq (show pay X c false (rcv st j) = slotPt (dM st) c j fullShare (X st j (pt st c)) from rfl)); iexact Hp

/-- The wait for the own copy's completion: the lent share of the slot back. -/
theorem sent (st : Bool) (j : Fin 4) (q : DmaSem sig) (hq : SemLoc.dma q = csem (snd st j))
    {src dst : Memref sig .tc .vmem S128x512 .bf16} {h1 : src.view.WordExact} {h2 : dst.view.WordExact}
    (hN : dst.view.dmaCredit = N)
    {α : Type} {Q : α → sProp 𝕄} {k : PUnit → Prog (TpuEff nD τ sig (Elt F) Λ₀ .tc) α} :
    iprop(ctx X K ∗ owesX c [] ∗ T2 c st j)
      ⊢ iprop((iprop(owesX c [] ∗ T3 c st j ∗ slotPt (sM st) c j (lend st) (X st j c))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q src dst h1 h2) k) Q) := by
  unfold T2 T3
  iintro ⟨#HC, HO, HaS, HaR, HcS⟩ Hk
  iapply (step_wait X K c (false, st, j) q hq [] (fun i h => absurd h List.not_mem_nil) hN) $$ [HO HaS HcS]
  · isplitr; · iexact HC
    isplitl [HO]; · iexact HO
    isplitl [HcS] <;> iassumption
  iintro ⟨HO, HaS, Hp⟩
  iapply Hk
  isplitl [HO]; · iexact HO
  isplitl [HaS HaR]
  · isplitl [HaS] <;> iassumption
  iapply (Entails.of_eq (show pay X c false (snd st j) = slotPt (sM st) c j (lend st) (X st j c) from rfl)); iexact Hp

end Cert.Exchange
-- ==== Proof.Parts.lean ====
/-
The body, part by part.

The program is printed in twenty parts; each theorem here runs one of them: what it is given, what it returns, and what
device `c` holds before and after it.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- Device `c` holds its staged result at contents `f`. -/
abbrev outPt (c : Dev nD) (f : Buf (Elt F) ((c : Thread nD τ).loc cc0_stg5_0)) : sProp 𝕄 := ((c : Thread nD τ).loc cc0_stg5_0) ↦{fullShare} f

/-- The first partner and the second as the program computes them from the device's number. -/
abbrev w3 (c : Dev nD) : BitVec 32 := Scalar.xori (Scalar.remsi (Scalar.divsi (Dev.word c) 1#32) 4#32) 1#32
/-- The second partner, computed the same way. -/
abbrev w4 (c : Dev nD) : BitVec 32 := Scalar.subi 3#32 (Scalar.remsi (Scalar.divsi (Dev.word c) 1#32) 4#32)

/-- Device `c`'s columns of `Wq` and rows of `Wo`, and what the loads of its other inputs read. -/
def lWq (I : Ins F) (c : Dev nD) : Vec F S512x256 .bf16 := (Memref.whole cc0_stg1_0 : Memref sig .tc .vmem S512x1024 .bf16).view.readAt (Elt F) (rWq c) (I.wq c)
/-- The device's rows of `Wo`. -/
def lWo (I : Ins F) (c : Dev nD) : Vec F S256x512 .bf16 := (Memref.whole cc0_stg4_0 : Memref sig .tc .vmem S1024x512 .bf16).view.readAt (Elt F) (rWo c) (I.wo c)
/-- The rows of `x` of one slot. -/
def lX (I : Ins F) (r : Fin 2 × Fin 2) (c : Dev nD) : Vec F S1x128x512 .bf16 := (Memref.whole cc0_stg0_0 : Memref sig .tc .vmem S2x256x512 .bf16).view.readAt (Elt F) (rX r) (I.x c)
/-- One batch element's keys. -/
def lK (I : Ins F) (b : Fin 2) (c : Dev nD) : Vec F S1x256x4x64 .bf16 := (Memref.whole cc0_stg2_0 : Memref sig .tc .vmem S2x256x4x64 .bf16).view.readAt (Elt F) (rKV b) (I.k c)
/-- One batch element's values. -/
def lV (I : Ins F) (b : Fin 2) (c : Dev nD) : Vec F S1x256x4x64 .bf16 := (Memref.whole cc0_stg3_0 : Memref sig .tc .vmem S2x256x4x64 .bf16).view.readAt (Elt F) (rKV b) (I.v c)
/-- The number of each column of the scores: the position of the key. -/
abbrev colI : IVec S128x256 32 := iota .tc S128x256 32 [1] iota_S128x256_d1_w32

variable (I : Ins F) (X : Bool → Fin 4 → Dev nD → Rows F) (K : Dev nD × CK → ℕ) (c : Dev nD)

/-! ## The loads of the inputs -/

/-- The load of the device's columns of `Wq`. -/
theorem ldWq (off : Fin 2 → ℕ) (hoff : off = k0_off1 c)
    {inb : ∀ a, off a + S512x256.size a ≤ S512x1024.size a}
    {hl : (Memref.whole cc0_stg1_0 : Memref sig .tc .vmem S512x1024 .bf16).view.LoadsAt (Rect.unit (s := S512x1024) off S512x256.size inb).toLoadRect}
    {α : Type} {Q : α → sProp 𝕄} {k : Vec F S512x256 .bf16 → Prog (TpuEff nD τ sig (Elt F) Λ₀ .tc) α} :
    ins I c ⊢ iprop((ins I c -∗ wp frame (wpE (defs₀ (F := F)) 𝒱₀ (c : Thread nD τ) none) Set.univ (k (lWq I c)) Q)
      -∗ wp frame (wpE (defs₀ (F := F)) 𝒱₀ (c : Thread nD τ) none) Set.univ
        (.op (.load (Memref.whole cc0_stg1_0 : Memref sig .tc .vmem S512x1024 .bf16) (Rect.unit (s := S512x1024) off S512x256.size inb).toLoadRect hl) k) Q) := by
  subst hoff
  unfold ins
  iintro ⟨Hx, Hwq, Hk, Hv, Hwo⟩ HK
  iapply (wp_load 𝒱₀ (c : Thread nD τ) none Set.univ (m := (Memref.whole cc0_stg1_0 : Memref sig .tc .vmem S512x1024 .bf16)) (Finset.subset_univ _)) $$ Hwq; iintro Hwq
  iapply HK
  isplitl [Hx]; · iexact Hx
  isplitl [Hwq]; · iexact Hwq
  isplitl [Hk]; · iexact Hk
  isplitl [Hv] <;> iassumption

/-- The load of the device's rows of `Wo`. -/
theorem ldWo (off : Fin 2 → ℕ) (hoff : off = k0_off2 c)
    {inb : ∀ a, off a + S256x512.size a ≤ S1024x512.size a}
    {hl : (Memref.whole cc0_stg4_0 : Memref sig .tc .vmem S1024x512 .bf16).view.LoadsAt (Rect.unit (s := S1024x512) off S256x512.size inb).toLoadRect}
    {α : Type} {Q : α → sProp 𝕄} {k : Vec F S256x512 .bf16 → Prog (TpuEff nD τ sig (Elt F) Λ₀ .tc) α} :
    ins I c ⊢ iprop((ins I c -∗ wp frame (wpE (defs₀ (F := F)) 𝒱₀ (c : Thread nD τ) none) Set.univ (k (lWo I c)) Q)
      -∗ wp frame (wpE (defs₀ (F := F)) 𝒱₀ (c : Thread nD τ) none) Set.univ
        (.op (.load (Memref.whole cc0_stg4_0 : Memref sig .tc .vmem S1024x512 .bf16) (Rect.unit (s := S1024x512) off S256x512.size inb).toLoadRect hl) k) Q) := by
  subst hoff
  unfold ins
  iintro ⟨Hx, Hwq, Hk, Hv, Hwo⟩ HK
  iapply (wp_load 𝒱₀ (c : Thread nD τ) none Set.univ (m := (Memref.whole cc0_stg4_0 : Memref sig .tc .vmem S1024x512 .bf16)) (Finset.subset_univ _)) $$ Hwo; iintro Hwo
  iapply HK
  isplitl [Hx]; · iexact Hx
  isplitl [Hwq]; · iexact Hwq
  isplitl [Hk]; · iexact Hk
  isplitl [Hv] <;> iassumption

/-- The load of one slot's rows of `x`. -/
theorem ldX (r : Fin 2 × Fin 2) (off : Fin 3 → ℕ) (hoff : off = ![r.1.val, 128 * r.2.val, 0])
    {inb : ∀ a, off a + S1x128x512.size a ≤ S2x256x512.size a}
    {hl : (Memref.whole cc0_stg0_0 : Memref sig .tc .vmem S2x256x512 .bf16).view.LoadsAt (Rect.unit (s := S2x256x512) off S1x128x512.size inb).toLoadRect}
    {α : Type} {Q : α → sProp 𝕄} {k : Vec F S1x128x512 .bf16 → Prog (TpuEff nD τ sig (Elt F) Λ₀ .tc) α} :
    ins I c ⊢ iprop((ins I c -∗ wp frame (wpE (defs₀ (F := F)) 𝒱₀ (c : Thread nD τ) none) Set.univ (k (lX I r c)) Q)
      -∗ wp frame (wpE (defs₀ (F := F)) 𝒱₀ (c : Thread nD τ) none) Set.univ
        (.op (.load (Memref.whole cc0_stg0_0 : Memref sig .tc .vmem S2x256x512 .bf16) (Rect.unit (s := S2x256x512) off S1x128x512.size inb).toLoadRect hl) k) Q) := by
  subst hoff
  unfold ins
  iintro ⟨Hx, Hwq, Hk, Hv, Hwo⟩ HK
  iapply (wp_load 𝒱₀ (c : Thread nD τ) none Set.univ (m := (Memref.whole cc0_stg0_0 : Memref sig .tc .vmem S2x256x512 .bf16)) (Finset.subset_univ _)) $$ Hx; iintro Hx
  iapply HK
  isplitl [Hx]; · iexact Hx
  isplitl [Hwq]; · iexact Hwq
  isplitl [Hk]; · iexact Hk
  isplitl [Hv] <;> iassumption

/-- The load of one batch element's keys. -/
theorem ldK (b : Fin 2) (off : Fin 4 → ℕ) (hoff : off = ![b.val, 0, 0, 0])
    {inb : ∀ a, off a + S1x256x4x64.size a ≤ S2x256x4x64.size a}
    {hl : (Memref.whole cc0_stg2_0 : Memref sig .tc .vmem S2x256x4x64 .bf16).view.LoadsAt (Rect.unit (s := S2x256x4x64) off S1x256x4x64.size inb).toLoadRect}
    {α : Type} {Q : α → sProp 𝕄} {k : Vec F S1x256x4x64 .bf16 → Prog (TpuEff nD τ sig (Elt F) Λ₀ .tc) α} :
    ins I c ⊢ iprop((ins I c -∗ wp frame (wpE (defs₀ (F := F)) 𝒱₀ (c : Thread nD τ) none) Set.univ (k (lK I b c)) Q)
      -∗ wp frame (wpE (defs₀ (F := F)) 𝒱₀ (c : Thread nD τ) none) Set.univ
        (.op (.load (Memref.whole cc0_stg2_0 : Memref sig .tc .vmem S2x256x4x64 .bf16) (Rect.unit (s := S2x256x4x64) off S1x256x4x64.size inb).toLoadRect hl) k) Q) := by
  subst hoff
  unfold ins
  iintro ⟨Hx, Hwq, Hk, Hv, Hwo⟩ HK
  iapply (wp_load 𝒱₀ (c : Thread nD τ) none Set.univ (m := (Memref.whole cc0_stg2_0 : Memref sig .tc .vmem S2x256x4x64 .bf16)) (Finset.subset_univ _)) $$ Hk; iintro Hk
  iapply HK
  isplitl [Hx]; · iexact Hx
  isplitl [Hwq]; · iexact Hwq
  isplitl [Hk]; · iexact Hk
  isplitl [Hv] <;> iassumption

/-- The load of one batch element's values. -/
theorem ldV (b : Fin 2) (off : Fin 4 → ℕ) (hoff : off = ![b.val, 0, 0, 0])
    {inb : ∀ a, off a + S1x256x4x64.size a ≤ S2x256x4x64.size a}
    {hl : (Memref.whole cc0_stg3_0 : Memref sig .tc .vmem S2x256x4x64 .bf16).view.LoadsAt (Rect.unit (s := S2x256x4x64) off S1x256x4x64.size inb).toLoadRect}
    {α : Type} {Q : α → sProp 𝕄} {k : Vec F S1x256x4x64 .bf16 → Prog (TpuEff nD τ sig (Elt F) Λ₀ .tc) α} :
    ins I c ⊢ iprop((ins I c -∗ wp frame (wpE (defs₀ (F := F)) 𝒱₀ (c : Thread nD τ) none) Set.univ (k (lV I b c)) Q)
      -∗ wp frame (wpE (defs₀ (F := F)) 𝒱₀ (c : Thread nD τ) none) Set.univ
        (.op (.load (Memref.whole cc0_stg3_0 : Memref sig .tc .vmem S2x256x4x64 .bf16) (Rect.unit (s := S2x256x4x64) off S1x256x4x64.size inb).toLoadRect hl) k) Q) := by
  subst hoff
  unfold ins
  iintro ⟨Hx, Hwq, Hk, Hv, Hwo⟩ HK
  iapply (wp_load 𝒱₀ (c : Thread nD τ) none Set.univ (m := (Memref.whole cc0_stg3_0 : Memref sig .tc .vmem S2x256x4x64 .bf16)) (Finset.subset_univ _)) $$ Hv; iintro Hv
  iapply HK
  isplitl [Hx]; · iexact Hx
  isplitl [Hwq]; · iexact Hwq
  isplitl [Hk]; · iexact Hk
  isplitl [Hv] <;> iassumption

/-! ## The result -/

/-- The staged result. -/
abbrev oM : Memref sig .tc .vmem S2x256x512 .f32 := Memref.whole cc0_stg5_0

set_option backward.proofsInPublic true in
/-- The rectangle of the rows of one slot in the result. -/
abbrev rO (r : Fin 2 × Fin 2) : Rect S2x256x512 := Rect.unit (s := S2x256x512) ![r.1.val, 128 * r.2.val, 0] S1x128x512.size (by revert r; decide)

/-- The result with the rows of one slot replaced by `w`. -/
def putOut (r : Fin 2 × Fin 2) (w : Vec F S1x128x512 .f32) (f : (cc0_stg5_0 : Ref sig .tc).ty.Contents (Elt F)) : (cc0_stg5_0 : Ref sig .tc).ty.Contents (Elt F) :=
  (oM.access (rO r)).write (Elt F) f w Finset.univ

/-- A load of the result whose value is not used. -/
theorem ldOut (r : Fin 2 × Fin 2) (f : Buf (Elt F) ((c : Thread nD τ).loc cc0_stg5_0)) (off : Fin 3 → ℕ) (hoff : off = ![r.1.val, 128 * r.2.val, 0])
    {inb : ∀ a, off a + S1x128x512.size a ≤ S2x256x512.size a}
    {hl : oM.view.LoadsAt (Rect.unit (s := S2x256x512) off S1x128x512.size inb).toLoadRect}
    {α : Type} {Q : α → sProp 𝕄} {p : Prog (TpuEff nD τ sig (Elt F) Λ₀ .tc) α} :
    outPt c f ⊢ iprop((outPt c f -∗ wp frame (wpE (defs₀ (F := F)) 𝒱₀ (c : Thread nD τ) none) Set.univ p Q)
      -∗ wp frame (wpE (defs₀ (F := F)) 𝒱₀ (c : Thread nD τ) none) Set.univ (.op (.load oM (Rect.unit (s := S2x256x512) off S1x128x512.size inb).toLoadRect hl) fun _ => p) Q) := by
  iintro H HK
  iapply (wp_load 𝒱₀ (c : Thread nD τ) none Set.univ (m := oM) (Finset.subset_univ _)) $$ H; iintro H
  iapply HK; iexact H

/-- A load of the result, going on whatever it reads. -/
theorem ldOutV (r : Fin 2 × Fin 2) (f : Buf (Elt F) ((c : Thread nD τ).loc cc0_stg5_0)) (off : Fin 3 → ℕ) (hoff : off = ![r.1.val, 128 * r.2.val, 0])
    {inb : ∀ a, off a + S1x128x512.size a ≤ S2x256x512.size a}
    {hl : oM.view.LoadsAt (Rect.unit (s := S2x256x512) off S1x128x512.size inb).toLoadRect}
    {α : Type} {Q : α → sProp 𝕄} {k : Vec F S1x128x512 .f32 → Prog (TpuEff nD τ sig (Elt F) Λ₀ .tc) α} :
    outPt c f ⊢ iprop((∀ w, (outPt c f -∗ wp frame (wpE (defs₀ (F := F)) 𝒱₀ (c : Thread nD τ) none) Set.univ (k w) Q))
      -∗ wp frame (wpE (defs₀ (F := F)) 𝒱₀ (c : Thread nD τ) none) Set.univ (.op (.load oM (Rect.unit (s := S2x256x512) off S1x128x512.size inb).toLoadRect hl) k) Q) := by
  iintro H HK
  iapply (wp_load 𝒱₀ (c : Thread nD τ) none Set.univ (m := oM) (Finset.subset_univ _)) $$ H; iintro H
  iapply HK; iexact H

/-- A store of one slot's rows into the result. -/
theorem stOut (r : Fin 2 × Fin 2) (f : Buf (Elt F) ((c : Thread nD τ).loc cc0_stg5_0)) (w : Vec F S1x128x512 .f32) (off : Fin 3 → ℕ) (hoff : off = ![r.1.val, 128 * r.2.val, 0])
    {inb : ∀ a, off a + S1x128x512.size a ≤ S2x256x512.size a}
    {hx : (oM.access (Rect.unit (s := S2x256x512) off S1x128x512.size inb)).Stores Finset.univ}
    {hm : (Finset.univ : Finset (Rect.unit (s := S2x256x512) off S1x128x512.size inb).shape.Idx) = Finset.univ ∨ ∀ a, (Rect.unit (s := S2x256x512) off S1x128x512.size inb).stride a = 1}
    {α : Type} {Q : α → sProp 𝕄} {k : PUnit → Prog (TpuEff nD τ sig (Elt F) Λ₀ .tc) α} :
    outPt c f ⊢ iprop((outPt c (putOut r w f) -∗ wp frame (wpE (defs₀ (F := F)) 𝒱₀ (c : Thread nD τ) none) Set.univ (k ⟨⟩) Q)
      -∗ wp frame (wpE (defs₀ (F := F)) 𝒱₀ (c : Thread nD τ) none) Set.univ (.op (.store oM (Rect.unit (s := S2x256x512) off S1x128x512.size inb) w Finset.univ hx hm) k) Q) := by
  subst hoff
  iintro H HK
  iapply (wp_store 𝒱₀ (c : Thread nD τ) none Set.univ (m := oM) (r := rO r) (Mk := Finset.univ) (Finset.subset_univ _)) $$ H; iintro H
  iapply HK; iexact H

/-- The handshake, and the first loads. -/
theorem part1 (Kt : (Σ' (d0 : Dev nD) (v3 : BitVec 32) (v4 : BitVec 32) (v13 : FVec F S512x256 .bf16) (v17 : FVec F S256x512 .bf16) (v18 : IVec S128x256 32) (v22 : FVec F S128x256 .bf16) (v25 : FVec F S256x256 .bf16), FVec F S256x4x64 .bf16) → sProp 𝕄) :
    iprop(ctx X K ∗ owesX c [(false, none), (true, none), (false, rcv false 0), (false, rcv false 1), (true, rcv true 0), (false, rcv false 2), (true, rcv true 1), (false, rcv false 3), (true, rcv true 2), (true, rcv true 3)]
        ∗ dutyTok ER (kcell (pt false c, none)) 0 false ∗ dutyTok ER (kcell (pt true c, none)) 0 true
        ∗ slots4 s1r c ∗ slots4 s2r c ∗ cred (tallyAt (kcell (c, none)) () 2) ∗ atPos ER (kcell (c, none)) 0 ∅ 0 ∗ ins I c)
      ⊢ iprop((iprop(owesX c [(false, rcv false 0), (false, rcv false 1), (true, rcv true 0), (false, rcv false 2), (true, rcv true 1), (false, rcv false 3), (true, rcv true 2), (true, rcv true 3)] ∗ atPos ER (kcell (c, none)) 1 ∅ 0 ∗ slots4 s1r (pt false c) ∗ slots4 s2r (pt true c) ∗ ins I c)
          -∗ Kt ⟨c, w3 c, w4 c, k0_pay1 (lWq I c), k0_pay2 (lWo I c), colI, k0_pay3 (lWq I c) (lX I (0, 0) c), k0_pay4 (lK I 0 c), k0_pay5 (lV I 0 c)⟩)
        -∗ wp frame (wpE (defs₀ (F := F)) 𝒱₀ (c : Thread nD τ) none) Set.univ (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5) Kt) := by
  simp only [k0_part1_eq_skeleton]; unfold k0_part1_skel
  simp only [semSignalWord, semWaitWord, Prog.lift, Prog.bind_op, Prog.bind_ret, Prog.pure_eq_ret, wp_deviceId]
  iintro ⟨#HC, HO, Ht1, Ht2, Hs1, Hs2, Hc, Hat, HI⟩ HK
  iapply (step_signal X K c false _ (dev1_eq c) [(true, none), (false, rcv false 0), (false, rcv false 1), (true, rcv true 0), (false, rcv false 2), (true, rcv true 1), (false, rcv false 3), (true, rcv true 2), (true, rcv true 3)]) $$ [HO Ht1 Hs1]
  · isplitr; · iexact HC
    isplitl [HO]; · iexact HO
    isplitl [Ht1] <;> iassumption
  iintro HO
  iapply (step_signal X K c true _ (dev2_eq c) [(false, rcv false 0), (false, rcv false 1), (true, rcv true 0), (false, rcv false 2), (true, rcv true 1), (false, rcv false 3), (true, rcv true 2), (true, rcv true 3)]) $$ [HO Ht2 Hs2]
  · isplitr; · iexact HC
    isplitl [HO]; · iexact HO
    isplitl [Ht2] <;> iassumption
  iintro HO
  iapply (step_barrier X K c [(false, rcv false 0), (false, rcv false 1), (true, rcv true 0), (false, rcv false 2), (true, rcv true 1), (false, rcv false 3), (true, rcv true 2), (true, rcv true 3)] (by decide)) $$ [HO Hc Hat]
  · isplitr; · iexact HC
    isplitl [HO]; · iexact HO
    isplitl [Hc] <;> iassumption
  iintro ⟨HO, Hat, Hs1, Hs2⟩
  iapply (ldWq I c _ rfl) $$ HI; iintro HI
  iapply (ldWo I c _ rfl) $$ HI; iintro HI
  iapply (ldX I c (0, 0) _ rfl) $$ HI; iintro HI
  iapply (ldK I c 0 _ rfl) $$ HI; iintro HI
  iapply (ldV I c 0 _ rfl) $$ HI; iintro HI
  rw [wp_ret]; imodintro
  iapply HK
  isplitl [HO]; · iexact HO
  isplitl [Hat]; · iexact Hat
  isplitl [Hs1]; · iexact Hs1
  isplitl [Hs2]; · iexact Hs2
  iexact HI

/-- Work on the first slot's heads that touches no memory. -/
theorem part2 (v18 : IVec S128x256 32) (v22 : FVec F S128x256 .bf16) (v25 : FVec F S256x256 .bf16) (v27 : FVec F S256x4x64 .bf16) (Kt : (Σ' (v28 : FVec F S256x256 .bf16) (v35 : IVec S128x256 1) (v53 : FVec F S128x64 .bf16) (v71 : FVec F S128x64 .bf16) (v72 : FVec F S128x64 .bf16), FVec F S256x64 .bf16) → sProp 𝕄) :
    Kt ⟨k0_pay6 v27, k0_pay7 v18, k0_pay8 v18 v22 v25 v27, k0_pay9 v18 v22 v25 v27, k0_pay10 v22, k0_pay11 v25⟩
      ⊢ wp frame (wpE (defs₀ (F := F)) 𝒱₀ (c : Thread nD τ) none) Set.univ (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v18 v22 v25 v27) Kt := by
  simp only [k0_part2_eq_skeleton]; unfold k0_part2_skel
  simp only [Prog.pure_eq_ret]
  rw [wp_ret]
  iintro H; imodintro; iexact H

/-- The first slot's partial product is stored. -/
theorem part3 (v17 : FVec F S256x512 .bf16) (v22 : FVec F S128x256 .bf16) (v25 : FVec F S256x256 .bf16) (v28 : FVec F S256x256 .bf16) (v35 : IVec S128x256 1) (v53 : FVec F S128x64 .bf16) (v71 : FVec F S128x64 .bf16) (v72 : FVec F S128x64 .bf16) (v73 : FVec F S256x64 .bf16) (hY : k0_pay12 v17 v22 v25 v28 v35 v53 v71 v72 v73 = X false 0 c) (Kt : (PUnit) → sProp 𝕄) :
    iprop(slotAny s1s c 0)
      ⊢ iprop((((iprop(slotPt s1s c 0 fullShare (X false 0 c)) -∗ Kt ⟨⟩)))
        -∗ wp frame (wpE (defs₀ (F := F)) 𝒱₀ (c : Thread nD τ) none) Set.univ (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v17 v22 v25 v28 v35 v53 v71 v72 v73) Kt) := by
  simp only [k0_part3_eq_skeleton]; unfold k0_part3_skel
  simp only [Prog.lift, Prog.bind_op, Prog.bind_ret, Prog.pure_eq_ret]
  iintro HA0 HK
  iapply (ldAny c s1s 0 _ rfl) $$ HA0; iintro HA0
  iapply (st c s1s 0 _ _ rfl) $$ HA0; iintro HA0
  rw [hY]
  rw [wp_ret]; imodintro
  iapply HK
  iexact HA0

/-- The first slot is sent; the loads of the second. -/
theorem part4 (v3 : BitVec 32) (v13 : FVec F S512x256 .bf16) (v18 : IVec S128x256 32) (Kt : (Σ' (v127 : FVec F S128x256 .bf16) (v130 : FVec F S256x256 .bf16) (v133 : FVec F S256x256 .bf16) (v140 : IVec S128x256 1) (v143 : FVec F S256x64 .bf16) (v146 : FVec F S128x256 .f32), F .f32) → sProp 𝕄) :
    iprop(ctx X K ∗ owesX c [(false, rcv false 0), (false, rcv false 1), (true, rcv true 0), (false, rcv false 2), (true, rcv true 1), (false, rcv false 3), (true, rcv true 2), (true, rcv true 3)] ∗ T0 c false 0 ∗ slotAny s1r (pt false c) 0 ∗ slotPt s1s c 0 fullShare (X false 0 c) ∗ ins I c)
      ⊢ iprop((((iprop(owesX c [(false, rcv false 1), (true, rcv true 0), (false, rcv false 2), (true, rcv true 1), (false, rcv false 3), (true, rcv true 2), (true, rcv true 3)] ∗ T1 c false 0 ∗ slotPt s1s c 0 fullShare.right (X false 0 c) ∗ ins I c) -∗ Kt ⟨k0_pay13 v13 (lX I (0, 1) c), k0_pay14 (lK I 0 c), k0_pay15 (lV I 0 c), k0_pay16 v18, k0_pay17 (lV I 0 c), k0_pay18 v13 (lX I (0, 1) c) (lK I 0 c), Named.named κ "mask" 0xC1F00000#32⟩)))
        -∗ wp frame (wpE (defs₀ (F := F)) 𝒱₀ (c : Thread nD τ) none) Set.univ (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v3 v13 v18) Kt) := by
  simp only [k0_part4_eq_skeleton]; unfold k0_part4_skel
  simp only [Prog.lift, Prog.bind_op, Prog.bind_ret, Prog.pure_eq_ret]
  iintro ⟨#HX, HO, HT10, HE10, HA0, HI⟩ HK
  iapply (copy1 X K c 0 _ (dev3_eq c) _ _ _ _ rfl rfl rfl rfl [(false, rcv false 1), (true, rcv true 0), (false, rcv false 2), (true, rcv true 1), (false, rcv false 3), (true, rcv true 2), (true, rcv true 3)]) $$ [HO HT10 HE10 HA0]
  · isplitr; · iexact HX
    isplitl [HO]; · iexact HO
    isplitl [HT10]; · iexact HT10
    isplitl [HE10]; · iexact HE10
    iexact HA0
  iintro ⟨HO, HT10, HA0⟩
  iapply (ldX I c (0, 1) _ rfl) $$ HI; iintro HI
  iapply (ldK I c 0 _ rfl) $$ HI; iintro HI
  iapply (ldV I c 0 _ rfl) $$ HI; iintro HI
  rw [wp_ret]; imodintro
  iapply HK
  isplitl [HO]; · iexact HO
  isplitl [HT10]; · iexact HT10
  isplitl [HA0]; · iexact HA0
  iexact HI

/-- Work on the second slot's heads that touches no memory. -/
theorem part5 (v127 : FVec F S128x256 .bf16) (v130 : FVec F S256x256 .bf16) (v133 : FVec F S256x256 .bf16) (v140 : IVec S128x256 1) (v143 : FVec F S256x64 .bf16) (v146 : FVec F S128x256 .f32) (cst_75 : F .f32) (Kt : (Σ' (v158 : FVec F S128x64 .bf16) (v176 : FVec F S128x64 .bf16) (v179 : FVec F S256x64 .bf16), FVec F S128x256 .bf16) → sProp 𝕄) :
    Kt ⟨k0_pay19 v140 v143 v146 cst_75, k0_pay20 v127 v130 v133 v140, k0_pay21 v133, k0_pay22 v127 v130 v140⟩
      ⊢ wp frame (wpE (defs₀ (F := F)) 𝒱₀ (c : Thread nD τ) none) Set.univ (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v127 v130 v133 v140 v143 v146 cst_75) Kt := by
  simp only [k0_part5_eq_skeleton]; unfold k0_part5_skel
  simp only [Prog.pure_eq_ret]
  rw [wp_ret]
  iintro H; imodintro; iexact H

/-- The second slot's partial product is stored. -/
theorem part6 (v3 : BitVec 32) (v17 : FVec F S256x512 .bf16) (v127 : FVec F S128x256 .bf16) (v130 : FVec F S256x256 .bf16) (v133 : FVec F S256x256 .bf16) (v140 : IVec S128x256 1) (v158 : FVec F S128x64 .bf16) (v176 : FVec F S128x64 .bf16) (v179 : FVec F S256x64 .bf16) (v192 : FVec F S128x256 .bf16) (hY : k0_pay23 v17 v127 v130 v133 v140 v158 v176 v179 v192 = X false 1 c) (Kt : (PUnit) → sProp 𝕄) :
    iprop(slotAny s1s c 1)
      ⊢ iprop((((iprop(slotPt s1s c 1 fullShare (X false 1 c)) -∗ Kt ⟨⟩)))
        -∗ wp frame (wpE (defs₀ (F := F)) 𝒱₀ (c : Thread nD τ) none) Set.univ (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v3 v17 v127 v130 v133 v140 v158 v176 v179 v192) Kt) := by
  simp only [k0_part6_eq_skeleton]; unfold k0_part6_skel
  simp only [Prog.lift, Prog.bind_op, Prog.bind_ret, Prog.pure_eq_ret]
  iintro HA1 HK
  iapply (ldAny c s1s 1 _ rfl) $$ HA1; iintro HA1
  iapply (st c s1s 1 _ _ rfl) $$ HA1; iintro HA1
  rw [hY]
  rw [wp_ret]; imodintro
  iapply HK
  iexact HA1

/-- The second slot is sent; the first has landed, and the sum of the pair is stored. -/
theorem part7 (v3 : BitVec 32) (v4 : BitVec 32) (hY : k0_pay25 (X false 0 c) (X false 0 (pt false c)) = X true 0 c) (Kt : (FVec F S128x512 .f32) → sProp 𝕄) :
    iprop(ctx X K ∗ owesX c [(false, rcv false 1), (true, rcv true 0), (false, rcv false 2), (true, rcv true 1), (false, rcv false 3), (true, rcv true 2), (true, rcv true 3)] ∗ T0 c false 1 ∗ slotAny s1r (pt false c) 1 ∗ slotPt s1s c 1 fullShare (X false 1 c) ∗ T1 c false 0 ∗ slotPt s1s c 0 fullShare.right (X false 0 c) ∗ slotAny s2s c 0)
      ⊢ iprop((((iprop(owesX c [(true, rcv true 0), (false, rcv false 2), (true, rcv true 1), (false, rcv false 3), (true, rcv true 2), (true, rcv true 3)] ∗ T1 c false 1 ∗ slotPt s1s c 1 fullShare.right (X false 1 c) ∗ T2 c false 0 ∗ slotPt s1r c 0 fullShare (X false 0 (pt false c)) ∗ slotPt s1s c 0 fullShare.right (X false 0 c) ∗ slotPt s2s c 0 fullShare (X true 0 c)) -∗ Kt (k0_pay24 (X false 0 c) (X false 0 (pt false c))))))
        -∗ wp frame (wpE (defs₀ (F := F)) 𝒱₀ (c : Thread nD τ) none) Set.univ (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v3 v4) Kt) := by
  simp only [k0_part7_eq_skeleton]; unfold k0_part7_skel
  simp only [Prog.lift, Prog.bind_op, Prog.bind_ret, Prog.pure_eq_ret]
  iintro ⟨#HX, HO, HT11, HE11, HA1, HT10, HA0, HC0⟩ HK
  iapply (copy1 X K c 1 _ (dev4_eq c) _ _ _ _ rfl rfl rfl rfl [(true, rcv true 0), (false, rcv false 2), (true, rcv true 1), (false, rcv false 3), (true, rcv true 2), (true, rcv true 3)]) $$ [HO HT11 HE11 HA1]
  · isplitr; · iexact HX
    isplitl [HO]; · iexact HO
    isplitl [HT11]; · iexact HT11
    isplitl [HE11]; · iexact HE11
    iexact HA1
  iintro ⟨HO, HT11, HA1⟩
  iapply (landed X K c false 0 _ rfl [(true, rcv true 0), (false, rcv false 2), (true, rcv true 1), (false, rcv false 3), (true, rcv true 2), (true, rcv true 3)] (by decide) (show (slot s1r 0).view.dmaCredit = N from rfl)) $$ [HO HT10]
  · isplitr; · iexact HX
    isplitl [HO]; · iexact HO
    iexact HT10
  iintro ⟨HO, HT10, HB0⟩
  iapply (ld c s1s 0 _ _ _ rfl) $$ HA0; iintro HA0
  iapply (ld c s1r 0 _ _ _ rfl) $$ HB0; iintro HB0
  iapply (ldAny c s2s 0 _ rfl) $$ HC0; iintro HC0
  iapply (st c s2s 0 _ _ rfl) $$ HC0; iintro HC0
  rw [hY]
  rw [wp_ret]; imodintro
  iapply HK
  isplitl [HO]; · iexact HO
  isplitl [HT11]; · iexact HT11
  isplitl [HA1]; · iexact HA1
  isplitl [HT10]; · iexact HT10
  isplitl [HB0]; · iexact HB0
  isplitl [HA0]; · iexact HA0
  iexact HC0

/-- The first pair is sent; the loads of the third slot. -/
theorem part8 (v13 : FVec F S512x256 .bf16) (v18 : IVec S128x256 32) (Kt : (Σ' (v261 : FVec F S128x256 .bf16) (v264 : FVec F S256x256 .bf16) (v267 : FVec F S256x256 .bf16) (v274 : IVec S128x256 1), FVec F S128x64 .f32) → sProp 𝕄) :
    iprop(ctx X K ∗ owesX c [(true, rcv true 0), (false, rcv false 2), (true, rcv true 1), (false, rcv false 3), (true, rcv true 2), (true, rcv true 3)] ∗ T0 c true 0 ∗ slotAny s2r (pt true c) 0 ∗ slotPt s2s c 0 fullShare (X true 0 c) ∗ ins I c)
      ⊢ iprop((((iprop(owesX c [(false, rcv false 2), (true, rcv true 1), (false, rcv false 3), (true, rcv true 2), (true, rcv true 3)] ∗ T1 c true 0 ∗ ins I c) -∗ Kt ⟨k0_pay26 v13 (lX I (1, 0) c), k0_pay27 (lK I 1 c), k0_pay28 (lV I 1 c), k0_pay29 v18, k0_pay30 v13 v18 (lX I (1, 0) c) (lK I 1 c) (lV I 1 c)⟩)))
        -∗ wp frame (wpE (defs₀ (F := F)) 𝒱₀ (c : Thread nD τ) none) Set.univ (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v13 v18) Kt) := by
  simp only [k0_part8_eq_skeleton]; unfold k0_part8_skel
  simp only [Prog.lift, Prog.bind_op, Prog.bind_ret, Prog.pure_eq_ret]
  iintro ⟨#HX, HO, HT20, HE20, HC0, HI⟩ HK
  iapply (copy2 X K c 0 _ (dev5_eq c) _ _ _ _ rfl rfl rfl rfl [(false, rcv false 2), (true, rcv true 1), (false, rcv false 3), (true, rcv true 2), (true, rcv true 3)]) $$ [HO HT20 HE20 HC0]
  · isplitr; · iexact HX
    isplitl [HO]; · iexact HO
    isplitl [HT20]; · iexact HT20
    isplitl [HE20]; · iexact HE20
    iexact HC0
  iintro ⟨HO, HT20⟩
  iapply (ldX I c (1, 0) _ rfl) $$ HI; iintro HI
  iapply (ldK I c 1 _ rfl) $$ HI; iintro HI
  iapply (ldV I c 1 _ rfl) $$ HI; iintro HI
  rw [wp_ret]; imodintro
  iapply HK
  isplitl [HO]; · iexact HO
  isplitl [HT20]; · iexact HT20
  iexact HI

/-- Work on the third slot's heads that touches no memory. -/
theorem part9 (v261 : FVec F S128x256 .bf16) (v264 : FVec F S256x256 .bf16) (v267 : FVec F S256x256 .bf16) (v274 : IVec S128x256 1) (v291 : FVec F S128x64 .f32) (Kt : (Σ' (v292 : FVec F S128x64 .bf16) (v310 : FVec F S128x64 .bf16) (v328 : FVec F S128x64 .bf16) (v331 : FVec F S256x64 .bf16), FVec F S128x256 .f32) → sProp 𝕄) :
    Kt ⟨k0_pay31 v291, k0_pay32 v261 v264 v267 v274, k0_pay33 v261 v264 v267 v274, k0_pay34 v267, k0_pay35 v261 v264 v274⟩
      ⊢ wp frame (wpE (defs₀ (F := F)) 𝒱₀ (c : Thread nD τ) none) Set.univ (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v261 v264 v267 v274 v291) Kt := by
  simp only [k0_part9_eq_skeleton]; unfold k0_part9_skel
  simp only [Prog.pure_eq_ret]
  rw [wp_ret]
  iintro H; imodintro; iexact H

/-- The third slot's partial product is stored and sent. -/
theorem part10 (v3 : BitVec 32) (v17 : FVec F S256x512 .bf16) (v292 : FVec F S128x64 .bf16) (v310 : FVec F S128x64 .bf16) (v328 : FVec F S128x64 .bf16) (v331 : FVec F S256x64 .bf16) (v336 : FVec F S128x256 .f32) (hY : k0_pay36 v17 v292 v310 v328 v331 v336 = X false 2 c) (Kt : (PUnit) → sProp 𝕄) :
    iprop(ctx X K ∗ slotAny s1s c 2 ∗ owesX c [(false, rcv false 2), (true, rcv true 1), (false, rcv false 3), (true, rcv true 2), (true, rcv true 3)] ∗ T0 c false 2 ∗ slotAny s1r (pt false c) 2)
      ⊢ iprop((((iprop(slotPt s1s c 2 fullShare.right (X false 2 c) ∗ owesX c [(true, rcv true 1), (false, rcv false 3), (true, rcv true 2), (true, rcv true 3)] ∗ T1 c false 2) -∗ Kt ⟨⟩)))
        -∗ wp frame (wpE (defs₀ (F := F)) 𝒱₀ (c : Thread nD τ) none) Set.univ (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v3 v17 v292 v310 v328 v331 v336) Kt) := by
  simp only [k0_part10_eq_skeleton]; unfold k0_part10_skel
  simp only [Prog.lift, Prog.bind_op, Prog.bind_ret, Prog.pure_eq_ret]
  iintro ⟨#HX, HA2, HO, HT12, HE12⟩ HK
  iapply (ldAny c s1s 2 _ rfl) $$ HA2; iintro HA2
  iapply (st c s1s 2 _ _ rfl) $$ HA2; iintro HA2
  rw [hY]
  iapply (copy1 X K c 2 _ (dev6_eq c) _ _ _ _ rfl rfl rfl rfl [(true, rcv true 1), (false, rcv false 3), (true, rcv true 2), (true, rcv true 3)]) $$ [HO HT12 HE12 HA2]
  · isplitr; · iexact HX
    isplitl [HO]; · iexact HO
    isplitl [HT12]; · iexact HT12
    isplitl [HE12]; · iexact HE12
    iexact HA2
  iintro ⟨HO, HT12, HA2⟩
  rw [wp_ret]; imodintro
  iapply HK
  isplitl [HA2]; · iexact HA2
  isplitl [HO]; · iexact HO
  iexact HT12

/-- The second slot has landed; its pair is stored and sent. -/
theorem part11 (v4 : BitVec 32) (hY : k0_pay38 (X false 1 c) (X false 1 (pt false c)) = X true 1 c) (Kt : (Σ' (v377 : FVec F S128x512 .f32), BitVec 32) → sProp 𝕄) :
    iprop(ctx X K ∗ owesX c [(true, rcv true 1), (false, rcv false 3), (true, rcv true 2), (true, rcv true 3)] ∗ T1 c false 1 ∗ slotPt s1s c 1 fullShare.right (X false 1 c) ∗ slotAny s2s c 1 ∗ T0 c true 1 ∗ slotAny s2r (pt true c) 1)
      ⊢ iprop((((iprop(owesX c [(false, rcv false 3), (true, rcv true 2), (true, rcv true 3)] ∗ T2 c false 1 ∗ slotPt s1r c 1 fullShare (X false 1 (pt false c)) ∗ slotPt s1s c 1 fullShare.right (X false 1 c) ∗ T1 c true 1) -∗ Kt ⟨k0_pay37 (X false 1 c) (X false 1 (pt false c)), Scalar.muli v4 1#32⟩)))
        -∗ wp frame (wpE (defs₀ (F := F)) 𝒱₀ (c : Thread nD τ) none) Set.univ (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v4) Kt) := by
  simp only [k0_part11_eq_skeleton]; unfold k0_part11_skel
  simp only [Prog.lift, Prog.bind_op, Prog.bind_ret, Prog.pure_eq_ret]
  iintro ⟨#HX, HO, HT11, HA1, HC1, HT21, HE21⟩ HK
  iapply (landed X K c false 1 _ rfl [(true, rcv true 1), (false, rcv false 3), (true, rcv true 2), (true, rcv true 3)] (by decide) (show (slot s1r 1).view.dmaCredit = N from rfl)) $$ [HO HT11]
  · isplitr; · iexact HX
    isplitl [HO]; · iexact HO
    iexact HT11
  iintro ⟨HO, HT11, HB1⟩
  iapply (ld c s1s 1 _ _ _ rfl) $$ HA1; iintro HA1
  iapply (ld c s1r 1 _ _ _ rfl) $$ HB1; iintro HB1
  iapply (ldAny c s2s 1 _ rfl) $$ HC1; iintro HC1
  iapply (st c s2s 1 _ _ rfl) $$ HC1; iintro HC1
  rw [hY]
  iapply (copy2 X K c 1 _ (dev7_eq c) _ _ _ _ rfl rfl rfl rfl [(false, rcv false 3), (true, rcv true 2), (true, rcv true 3)]) $$ [HO HT21 HE21 HC1]
  · isplitr; · iexact HX
    isplitl [HO]; · iexact HO
    isplitl [HT21]; · iexact HT21
    isplitl [HE21]; · iexact HE21
    iexact HC1
  iintro ⟨HO, HT21⟩
  rw [wp_ret]; imodintro
  iapply HK
  isplitl [HO]; · iexact HO
  isplitl [HT11]; · iexact HT11
  isplitl [HB1]; · iexact HB1
  isplitl [HA1]; · iexact HA1
  iexact HT21

/-- The first pair has landed and the first rows of the result are stored; the loads of the fourth slot. -/
theorem part12 (v13 : FVec F S512x256 .bf16) (v18 : IVec S128x256 32) (v243 : FVec F S128x512 .f32) (v392 : BitVec 32) (f : Buf (Elt F) ((c : Thread nD τ).loc cc0_stg5_0)) (Kt : (Σ' (v410 : FVec F S128x256 .bf16) (v413 : FVec F S256x256 .bf16) (v416 : FVec F S256x256 .bf16) (v423 : IVec S128x256 1) (v424 : FVec F S128x64 .bf16), FVec F S256x64 .bf16) → sProp 𝕄) :
    iprop(ctx X K ∗ owesX c [(false, rcv false 3), (true, rcv true 2), (true, rcv true 3)] ∗ T1 c true 0 ∗ outPt c f ∗ ins I c)
      ⊢ iprop((((iprop(owesX c [(false, rcv false 3), (true, rcv true 2), (true, rcv true 3)] ∗ T2 c true 0 ∗ slotPt s2r c 0 fullShare (X true 0 (pt true c)) ∗ outPt c (putOut (0, 0) (k0_pay39 v243 (X true 0 (pt true c))) f) ∗ ins I c) -∗ Kt ⟨k0_pay40 v13 (lX I (1, 1) c), k0_pay41 (lK I 1 c), k0_pay42 (lV I 1 c), k0_pay43 v18, k0_pay44 v13 (lX I (1, 1) c), k0_pay45 (lK I 1 c)⟩)))
        -∗ wp frame (wpE (defs₀ (F := F)) 𝒱₀ (c : Thread nD τ) none) Set.univ (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v13 v18 v243 v392) Kt) := by
  simp only [k0_part12_eq_skeleton]; unfold k0_part12_skel
  simp only [Prog.lift, Prog.bind_op, Prog.bind_ret, Prog.pure_eq_ret]
  iintro ⟨#HX, HO, HT20, Hout, HI⟩ HK
  iapply (landed X K c true 0 _ rfl [(false, rcv false 3), (true, rcv true 2), (true, rcv true 3)] (by decide) (show (slot s2r 0).view.dmaCredit = N from rfl)) $$ [HO HT20]
  · isplitr; · iexact HX
    isplitl [HO]; · iexact HO
    iexact HT20
  iintro ⟨HO, HT20, HD0⟩
  iapply (ld c s2r 0 _ _ _ rfl) $$ HD0; iintro HD0
  iapply (ldOut c (0, 0) f _ rfl) $$ Hout; iintro Hout
  iapply (stOut c (0, 0) _ _ _ rfl) $$ Hout; iintro Hout
  iapply (ldX I c (1, 1) _ rfl) $$ HI; iintro HI
  iapply (ldK I c 1 _ rfl) $$ HI; iintro HI
  iapply (ldV I c 1 _ rfl) $$ HI; iintro HI
  rw [wp_ret]; imodintro
  iapply HK
  isplitl [HO]; · iexact HO
  isplitl [HT20]; · iexact HT20
  isplitl [HD0]; · iexact HD0
  isplitl [Hout]; · iexact Hout
  iexact HI

/-- Work on the fourth slot's heads that touches no memory. -/
theorem part13 (v410 : FVec F S128x256 .bf16) (v413 : FVec F S256x256 .bf16) (v416 : FVec F S256x256 .bf16) (v423 : IVec S128x256 1) (v424 : FVec F S128x64 .bf16) (v425 : FVec F S256x64 .bf16) (Kt : (Σ' (v441 : FVec F S128x64 .bf16) (v459 : FVec F S128x64 .bf16) (v462 : FVec F S256x64 .bf16) (v468 : FVec F S128x256 .f32), FVec F S128 .f32) → sProp 𝕄) :
    Kt ⟨k0_pay46 v416 v423 v424 v425, k0_pay47 v410 v413 v416 v423, k0_pay48 v416, k0_pay49 v410 v413 v423, k0_pay50 v410 v413 v423⟩
      ⊢ wp frame (wpE (defs₀ (F := F)) 𝒱₀ (c : Thread nD τ) none) Set.univ (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v410 v413 v416 v423 v424 v425) Kt := by
  simp only [k0_part13_eq_skeleton]; unfold k0_part13_skel
  simp only [Prog.pure_eq_ret]
  rw [wp_ret]
  iintro H; imodintro; iexact H

/-- The fourth slot's partial product is stored. -/
theorem part14 (v3 : BitVec 32) (v17 : FVec F S256x512 .bf16) (v410 : FVec F S128x256 .bf16) (v413 : FVec F S256x256 .bf16) (v416 : FVec F S256x256 .bf16) (v423 : IVec S128x256 1) (v441 : FVec F S128x64 .bf16) (v459 : FVec F S128x64 .bf16) (v462 : FVec F S256x64 .bf16) (v468 : FVec F S128x256 .f32) (v469 : FVec F S128 .f32) (hY : k0_pay51 v17 v410 v413 v416 v423 v441 v459 v462 v468 v469 = X false 3 c) (Kt : (PUnit) → sProp 𝕄) :
    iprop(slotAny s1s c 3)
      ⊢ iprop((((iprop(slotPt s1s c 3 fullShare (X false 3 c)) -∗ Kt ⟨⟩)))
        -∗ wp frame (wpE (defs₀ (F := F)) 𝒱₀ (c : Thread nD τ) none) Set.univ (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v3 v17 v410 v413 v416 v423 v441 v459 v462 v468 v469) Kt) := by
  simp only [k0_part14_eq_skeleton]; unfold k0_part14_skel
  simp only [Prog.lift, Prog.bind_op, Prog.bind_ret, Prog.pure_eq_ret]
  iintro HA3 HK
  iapply (ldAny c s1s 3 _ rfl) $$ HA3; iintro HA3
  iapply (st c s1s 3 _ _ rfl) $$ HA3; iintro HA3
  rw [hY]
  rw [wp_ret]; imodintro
  iapply HK
  iexact HA3

/-- The fourth slot is sent; the third has landed, and its pair is stored. -/
theorem part15 (v3 : BitVec 32) (v4 : BitVec 32) (hY : k0_pay53 (X false 2 c) (X false 2 (pt false c)) = X true 2 c) (Kt : (FVec F S128x512 .f32) → sProp 𝕄) :
    iprop(ctx X K ∗ owesX c [(false, rcv false 3), (true, rcv true 2), (true, rcv true 3)] ∗ T0 c false 3 ∗ slotAny s1r (pt false c) 3 ∗ slotPt s1s c 3 fullShare (X false 3 c) ∗ T1 c false 2 ∗ slotPt s1s c 2 fullShare.right (X false 2 c) ∗ slotAny s2s c 2)
      ⊢ iprop((((iprop(owesX c [(true, rcv true 2), (true, rcv true 3)] ∗ T1 c false 3 ∗ slotPt s1s c 3 fullShare.right (X false 3 c) ∗ T2 c false 2 ∗ slotPt s1r c 2 fullShare (X false 2 (pt false c)) ∗ slotPt s1s c 2 fullShare.right (X false 2 c) ∗ slotPt s2s c 2 fullShare (X true 2 c)) -∗ Kt (k0_pay52 (X false 2 c) (X false 2 (pt false c))))))
        -∗ wp frame (wpE (defs₀ (F := F)) 𝒱₀ (c : Thread nD τ) none) Set.univ (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v3 v4) Kt) := by
  simp only [k0_part15_eq_skeleton]; unfold k0_part15_skel
  simp only [Prog.lift, Prog.bind_op, Prog.bind_ret, Prog.pure_eq_ret]
  iintro ⟨#HX, HO, HT13, HE13, HA3, HT12, HA2, HC2⟩ HK
  iapply (copy1 X K c 3 _ (dev8_eq c) _ _ _ _ rfl rfl rfl rfl [(true, rcv true 2), (true, rcv true 3)]) $$ [HO HT13 HE13 HA3]
  · isplitr; · iexact HX
    isplitl [HO]; · iexact HO
    isplitl [HT13]; · iexact HT13
    isplitl [HE13]; · iexact HE13
    iexact HA3
  iintro ⟨HO, HT13, HA3⟩
  iapply (landed X K c false 2 _ rfl [(true, rcv true 2), (true, rcv true 3)] (by decide) (show (slot s1r 2).view.dmaCredit = N from rfl)) $$ [HO HT12]
  · isplitr; · iexact HX
    isplitl [HO]; · iexact HO
    iexact HT12
  iintro ⟨HO, HT12, HB2⟩
  iapply (ld c s1s 2 _ _ _ rfl) $$ HA2; iintro HA2
  iapply (ld c s1r 2 _ _ _ rfl) $$ HB2; iintro HB2
  iapply (ldAny c s2s 2 _ rfl) $$ HC2; iintro HC2
  iapply (st c s2s 2 _ _ rfl) $$ HC2; iintro HC2
  rw [hY]
  rw [wp_ret]; imodintro
  iapply HK
  isplitl [HO]; · iexact HO
  isplitl [HT13]; · iexact HT13
  isplitl [HA3]; · iexact HA3
  isplitl [HT12]; · iexact HT12
  isplitl [HB2]; · iexact HB2
  isplitl [HA2]; · iexact HA2
  iexact HC2

/-- The third pair is sent; the second has landed and its rows of the result are stored. -/
theorem part16 (v3 : BitVec 32) (v4 : BitVec 32) (v377 : FVec F S128x512 .f32) (f : Buf (Elt F) ((c : Thread nD τ).loc cc0_stg5_0)) (Kt : (PUnit) → sProp 𝕄) :
    iprop(ctx X K ∗ owesX c [(true, rcv true 2), (true, rcv true 3)] ∗ T0 c true 2 ∗ slotAny s2r (pt true c) 2 ∗ slotPt s2s c 2 fullShare (X true 2 c) ∗ T1 c true 1 ∗ outPt c f)
      ⊢ iprop((((iprop(owesX c [(true, rcv true 3)] ∗ T1 c true 2 ∗ T2 c true 1 ∗ slotPt s2r c 1 fullShare (X true 1 (pt true c)) ∗ outPt c (putOut (0, 1) (k0_pay54 v377 (X true 1 (pt true c))) f)) -∗ Kt ⟨⟩)))
        -∗ wp frame (wpE (defs₀ (F := F)) 𝒱₀ (c : Thread nD τ) none) Set.univ (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v3 v4 v377) Kt) := by
  simp only [k0_part16_eq_skeleton]; unfold k0_part16_skel
  simp only [Prog.lift, Prog.bind_op, Prog.bind_ret, Prog.pure_eq_ret]
  iintro ⟨#HX, HO, HT22, HE22, HC2, HT21, Hout⟩ HK
  iapply (copy2 X K c 2 _ (dev9_eq c) _ _ _ _ rfl rfl rfl rfl [(true, rcv true 3)]) $$ [HO HT22 HE22 HC2]
  · isplitr; · iexact HX
    isplitl [HO]; · iexact HO
    isplitl [HT22]; · iexact HT22
    isplitl [HE22]; · iexact HE22
    iexact HC2
  iintro ⟨HO, HT22⟩
  iapply (landed X K c true 1 _ rfl [(true, rcv true 3)] (by decide) (show (slot s2r 1).view.dmaCredit = N from rfl)) $$ [HO HT21]
  · isplitr; · iexact HX
    isplitl [HO]; · iexact HO
    iexact HT21
  iintro ⟨HO, HT21, HD1⟩
  iapply (ld c s2r 1 _ _ _ rfl) $$ HD1; iintro HD1
  iapply (ldOut c (0, 1) f _ rfl) $$ Hout; iintro Hout
  iapply (stOut c (0, 1) _ _ _ rfl) $$ Hout; iintro Hout
  rw [wp_ret]; imodintro
  iapply HK
  isplitl [HO]; · iexact HO
  isplitl [HT22]; · iexact HT22
  isplitl [HT21]; · iexact HT21
  isplitl [HD1]; · iexact HD1
  iexact Hout

/-- The fourth slot has landed; its pair is stored and sent. -/
theorem part17 (v4 : BitVec 32) (hY : k0_pay56 (X false 3 c) (X false 3 (pt false c)) = X true 3 c) (Kt : (Σ' (v570 : FVec F S128x512 .f32), BitVec 32) → sProp 𝕄) :
    iprop(ctx X K ∗ owesX c [(true, rcv true 3)] ∗ T1 c false 3 ∗ slotPt s1s c 3 fullShare.right (X false 3 c) ∗ slotAny s2s c 3 ∗ T0 c true 3 ∗ slotAny s2r (pt true c) 3)
      ⊢ iprop((((iprop(owesX c [] ∗ T2 c false 3 ∗ slotPt s1r c 3 fullShare (X false 3 (pt false c)) ∗ slotPt s1s c 3 fullShare.right (X false 3 c) ∗ T1 c true 3) -∗ Kt ⟨k0_pay55 (X false 3 c) (X false 3 (pt false c)), 1#32⟩)))
        -∗ wp frame (wpE (defs₀ (F := F)) 𝒱₀ (c : Thread nD τ) none) Set.univ (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v4) Kt) := by
  simp only [k0_part17_eq_skeleton]; unfold k0_part17_skel
  simp only [Prog.lift, Prog.bind_op, Prog.bind_ret, Prog.pure_eq_ret]
  iintro ⟨#HX, HO, HT13, HA3, HC3, HT23, HE23⟩ HK
  iapply (landed X K c false 3 _ rfl [(true, rcv true 3)] (by decide) (show (slot s1r 3).view.dmaCredit = N from rfl)) $$ [HO HT13]
  · isplitr; · iexact HX
    isplitl [HO]; · iexact HO
    iexact HT13
  iintro ⟨HO, HT13, HB3⟩
  iapply (ld c s1s 3 _ _ _ rfl) $$ HA3; iintro HA3
  iapply (ld c s1r 3 _ _ _ rfl) $$ HB3; iintro HB3
  iapply (ldAny c s2s 3 _ rfl) $$ HC3; iintro HC3
  iapply (st c s2s 3 _ _ rfl) $$ HC3; iintro HC3
  rw [hY]
  iapply (copy2 X K c 3 _ (dev10_eq c) _ _ _ _ rfl rfl rfl rfl []) $$ [HO HT23 HE23 HC3]
  · isplitr; · iexact HX
    isplitl [HO]; · iexact HO
    isplitl [HT23]; · iexact HT23
    isplitl [HE23]; · iexact HE23
    iexact HC3
  iintro ⟨HO, HT23⟩
  rw [wp_ret]; imodintro
  iapply HK
  isplitl [HO]; · iexact HO
  isplitl [HT13]; · iexact HT13
  isplitl [HB3]; · iexact HB3
  isplitl [HA3]; · iexact HA3
  iexact HT23

/-- The last two pairs have landed; the third's rows of the result are stored. -/
theorem part18 (v4 : BitVec 32) (v526 : FVec F S128x512 .f32) (v570 : FVec F S128x512 .f32) (c1_i32_392 : BitVec 32) (f : Buf (Elt F) ((c : Thread nD τ).loc cc0_stg5_0)) (Kt : (Σ' (v611 : FVec F S128x512 .f32), Vec F S1x128x512 .f32) → sProp 𝕄) :
    iprop(ctx X K ∗ owesX c [] ∗ T1 c true 2 ∗ outPt c f ∗ T1 c true 3)
      ⊢ iprop(((∀ w, (iprop(owesX c [] ∗ T2 c true 2 ∗ slotPt s2r c 2 fullShare (X true 2 (pt true c)) ∗ outPt c (putOut (1, 0) (k0_pay57 v526 (X true 2 (pt true c))) f) ∗ T2 c true 3 ∗ slotPt s2r c 3 fullShare (X true 3 (pt true c))) -∗ Kt ⟨k0_pay58 v570 (X true 3 (pt true c)), w⟩)))
        -∗ wp frame (wpE (defs₀ (F := F)) 𝒱₀ (c : Thread nD τ) none) Set.univ (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v4 v526 v570 c1_i32_392) Kt) := by
  simp only [k0_part18_eq_skeleton]; unfold k0_part18_skel
  simp only [Prog.lift, Prog.bind_op, Prog.bind_ret, Prog.pure_eq_ret]
  iintro ⟨#HX, HO, HT22, Hout, HT23⟩ HK
  iapply (landed X K c true 2 _ rfl [] (by decide) (show (slot s2r 2).view.dmaCredit = N from rfl)) $$ [HO HT22]
  · isplitr; · iexact HX
    isplitl [HO]; · iexact HO
    iexact HT22
  iintro ⟨HO, HT22, HD2⟩
  iapply (ld c s2r 2 _ _ _ rfl) $$ HD2; iintro HD2
  iapply (ldOut c (1, 0) f _ rfl) $$ Hout; iintro Hout
  iapply (stOut c (1, 0) _ _ _ rfl) $$ Hout; iintro Hout
  iapply (landed X K c true 3 _ rfl [] (by decide) (show (slot s2r 3).view.dmaCredit = N from rfl)) $$ [HO HT23]
  · isplitr; · iexact HX
    isplitl [HO]; · iexact HO
    iexact HT23
  iintro ⟨HO, HT23, HD3⟩
  iapply (ld c s2r 3 _ _ _ rfl) $$ HD3; iintro HD3
  iapply (ldOutV c (1, 1) _ _ rfl) $$ Hout; iintro %w Hout
  rw [wp_ret]; imodintro
  iapply HK $$ %w
  isplitl [HO]; · iexact HO
  isplitl [HT22]; · iexact HT22
  isplitl [HD2]; · iexact HD2
  isplitl [Hout]; · iexact Hout
  isplitl [HT23]; · iexact HT23
  iexact HD3

/-- The last rows are stored; the first three copies are complete. -/
theorem part19 (v611 : FVec F S128x512 .f32) (v612 : Vec F S1x128x512 .f32) (f : Buf (Elt F) ((c : Thread nD τ).loc cc0_stg5_0)) (Kt : (PUnit) → sProp 𝕄) :
    iprop(ctx X K ∗ outPt c f ∗ owesX c [] ∗ T2 c false 0 ∗ T2 c true 0 ∗ T2 c false 1)
      ⊢ iprop((((iprop(outPt c (putOut (1, 1) (k0_pay59 v611) f) ∗ owesX c [] ∗ T3 c false 0 ∗ slotPt s1s c 0 (lend false) (X false 0 c) ∗ T3 c true 0 ∗ slotPt s2s c 0 fullShare (X true 0 c) ∗ T3 c false 1 ∗ slotPt s1s c 1 (lend false) (X false 1 c)) -∗ Kt ⟨⟩)))
        -∗ wp frame (wpE (defs₀ (F := F)) 𝒱₀ (c : Thread nD τ) none) Set.univ (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v611 v612) Kt) := by
  simp only [k0_part19_eq_skeleton]; unfold k0_part19_skel
  simp only [Prog.lift, Prog.bind_op, Prog.bind_ret, Prog.pure_eq_ret]
  iintro ⟨#HX, Hout, HO, HT10, HT20, HT11⟩ HK
  iapply (stOut c (1, 1) _ _ _ rfl) $$ Hout; iintro Hout
  iapply (sent X K c false 0 _ rfl (show (slot s1s 0).view.dmaCredit = N from rfl)) $$ [HO HT10]
  · isplitr; · iexact HX
    isplitl [HO]; · iexact HO
    iexact HT10
  iintro ⟨HO, HT10, HL0⟩
  iapply (sent X K c true 0 _ rfl (show (slot s2s 0).view.dmaCredit = N from rfl)) $$ [HO HT20]
  · isplitr; · iexact HX
    isplitl [HO]; · iexact HO
    iexact HT20
  iintro ⟨HO, HT20, HC0⟩
  iapply (sent X K c false 1 _ rfl (show (slot s1s 1).view.dmaCredit = N from rfl)) $$ [HO HT11]
  · isplitr; · iexact HX
    isplitl [HO]; · iexact HO
    iexact HT11
  iintro ⟨HO, HT11, HL1⟩
  rw [wp_ret]; imodintro
  iapply HK
  isplitl [Hout]; · iexact Hout
  isplitl [HO]; · iexact HO
  isplitl [HT10]; · iexact HT10
  isplitl [HL0]; · iexact HL0
  isplitl [HT20]; · iexact HT20
  isplitl [HC0]; · iexact HC0
  isplitl [HT11]; · iexact HT11
  iexact HL1

/-- Three more copies are complete. -/
theorem part20 (Kt : (PUnit) → sProp 𝕄) :
    iprop(ctx X K ∗ owesX c [] ∗ T2 c true 1 ∗ T2 c false 2 ∗ T2 c true 2)
      ⊢ iprop((((iprop(owesX c [] ∗ T3 c true 1 ∗ slotPt s2s c 1 fullShare (X true 1 c) ∗ T3 c false 2 ∗ slotPt s1s c 2 (lend false) (X false 2 c) ∗ T3 c true 2 ∗ slotPt s2s c 2 fullShare (X true 2 c)) -∗ Kt ⟨⟩)))
        -∗ wp frame (wpE (defs₀ (F := F)) 𝒱₀ (c : Thread nD τ) none) Set.univ (k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5) Kt) := by
  simp only [k0_part20_eq_skeleton]; unfold k0_part20_skel
  simp only [Prog.lift, Prog.bind_op, Prog.bind_ret, Prog.pure_eq_ret]
  iintro ⟨#HX, HO, HT21, HT12, HT22⟩ HK
  iapply (sent X K c true 1 _ rfl (show (slot s2s 1).view.dmaCredit = N from rfl)) $$ [HO HT21]
  · isplitr; · iexact HX
    isplitl [HO]; · iexact HO
    iexact HT21
  iintro ⟨HO, HT21, HC1⟩
  iapply (sent X K c false 2 _ rfl (show (slot s1s 2).view.dmaCredit = N from rfl)) $$ [HO HT12]
  · isplitr; · iexact HX
    isplitl [HO]; · iexact HO
    iexact HT12
  iintro ⟨HO, HT12, HL2⟩
  iapply (sent X K c true 2 _ rfl (show (slot s2s 2).view.dmaCredit = N from rfl)) $$ [HO HT22]
  · isplitr; · iexact HX
    isplitl [HO]; · iexact HO
    iexact HT22
  iintro ⟨HO, HT22, HC2⟩
  rw [wp_ret]; imodintro
  iapply HK
  isplitl [HO]; · iexact HO
  isplitl [HT21]; · iexact HT21
  isplitl [HC1]; · iexact HC1
  isplitl [HT12]; · iexact HT12
  isplitl [HL2]; · iexact HL2
  isplitl [HT22]; · iexact HT22
  iexact HC2

end Cert.Exchange
-- ==== Proof.Contents.lean ====
/-
What the exchange computes, as functions of the staged inputs.

Slot `j` is the 128 rows `128 * (j % 2) …` of batch `j / 2`. A device's partial product of a slot goes to its partner of the first
stage, the sum of the pair to its partner of the second; the result's rows of the slot are the sum of both pairs.
-/
module

public import proofs.«01_k».proof.Proof.Parts
public import Idealize.ShloMosaic.Lib.PointwiseCore

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The batch and the half of a slot. -/
abbrev rj (j : Fin 4) : Fin 2 × Fin 2 := match j with | 0 => (0, 0) | 1 => (0, 1) | 2 => (1, 0) | 3 => (1, 1)

/-- The partial product of slot 0, from the loaded columns of `Wq`, rows of `Wo`, rows of `x`, and the batch's keys and values. -/
def P0 (wq : Vec F S512x256 .bf16) (wo : Vec F S256x512 .bf16) (x : Vec F S1x128x512 .bf16) (k v : Vec F S1x256x4x64 .bf16) : Rows F :=
  k0_pay12 (k0_pay2 wo) (k0_pay3 wq x) (k0_pay4 k) (k0_pay6 (k0_pay5 v)) (k0_pay7 colI) (k0_pay8 colI (k0_pay3 wq x) (k0_pay4 k) (k0_pay5 v)) (k0_pay9 colI (k0_pay3 wq x) (k0_pay4 k) (k0_pay5 v)) (k0_pay10 (k0_pay3 wq x)) (k0_pay11 (k0_pay4 k))

/-- The partial product of slot 1, from the loaded columns of `Wq`, rows of `Wo`, rows of `x`, and the batch's keys and values. -/
def P1 (wq : Vec F S512x256 .bf16) (wo : Vec F S256x512 .bf16) (x : Vec F S1x128x512 .bf16) (k v : Vec F S1x256x4x64 .bf16) : Rows F :=
  k0_pay23 (k0_pay2 wo) (k0_pay13 (k0_pay1 wq) x) (k0_pay14 k) (k0_pay15 v) (k0_pay16 colI) (k0_pay19 (k0_pay16 colI) (k0_pay17 v) (k0_pay18 (k0_pay1 wq) x k) (Named.named κ "mask" 0xC1F00000#32)) (k0_pay20 (k0_pay13 (k0_pay1 wq) x) (k0_pay14 k) (k0_pay15 v) (k0_pay16 colI)) (k0_pay21 (k0_pay15 v)) (k0_pay22 (k0_pay13 (k0_pay1 wq) x) (k0_pay14 k) (k0_pay16 colI))

/-- The partial product of slot 2, from the loaded columns of `Wq`, rows of `Wo`, rows of `x`, and the batch's keys and values. -/
def P2 (wq : Vec F S512x256 .bf16) (wo : Vec F S256x512 .bf16) (x : Vec F S1x128x512 .bf16) (k v : Vec F S1x256x4x64 .bf16) : Rows F :=
  k0_pay36 (k0_pay2 wo) (k0_pay31 (k0_pay30 (k0_pay1 wq) colI x k v)) (k0_pay32 (k0_pay26 (k0_pay1 wq) x) (k0_pay27 k) (k0_pay28 v) (k0_pay29 colI)) (k0_pay33 (k0_pay26 (k0_pay1 wq) x) (k0_pay27 k) (k0_pay28 v) (k0_pay29 colI)) (k0_pay34 (k0_pay28 v)) (k0_pay35 (k0_pay26 (k0_pay1 wq) x) (k0_pay27 k) (k0_pay29 colI))

/-- The partial product of slot 3, from the loaded columns of `Wq`, rows of `Wo`, rows of `x`, and the batch's keys and values. -/
def P3 (wq : Vec F S512x256 .bf16) (wo : Vec F S256x512 .bf16) (x : Vec F S1x128x512 .bf16) (k v : Vec F S1x256x4x64 .bf16) : Rows F :=
  k0_pay51 (k0_pay2 wo) (k0_pay40 (k0_pay1 wq) x) (k0_pay41 k) (k0_pay42 v) (k0_pay43 colI) (k0_pay46 (k0_pay42 v) (k0_pay43 colI) (k0_pay44 (k0_pay1 wq) x) (k0_pay45 k)) (k0_pay47 (k0_pay40 (k0_pay1 wq) x) (k0_pay41 k) (k0_pay42 v) (k0_pay43 colI)) (k0_pay48 (k0_pay42 v)) (k0_pay49 (k0_pay40 (k0_pay1 wq) x) (k0_pay41 k) (k0_pay43 colI)) (k0_pay50 (k0_pay40 (k0_pay1 wq) x) (k0_pay41 k) (k0_pay43 colI))

variable (I : Ins F)

/-- Device `c`'s partial product of a slot; -/
def PR (j : Fin 4) (c : Dev nD) : Rows F := match j with
  | 0 => P0 (lWq I c) (lWo I c) (lX I (0, 0) c) (lK I 0 c) (lV I 0 c)
  | 1 => P1 (lWq I c) (lWo I c) (lX I (0, 1) c) (lK I 0 c) (lV I 0 c)
  | 2 => P2 (lWq I c) (lWo I c) (lX I (1, 0) c) (lK I 1 c) (lV I 1 c)
  | 3 => P3 (lWq I c) (lWo I c) (lX I (1, 1) c) (lK I 1 c) (lV I 1 c)

/-- the sum of it with the first partner's, at single precision, -/
def pair (j : Fin 4) (c : Dev nD) : FVec F S128x512 .f32 := match j with
  | 0 => k0_pay24 (PR I 0 c) (PR I 0 (pt false c))
  | 1 => k0_pay37 (PR I 1 c) (PR I 1 (pt false c))
  | 2 => k0_pay52 (PR I 2 c) (PR I 2 (pt false c))
  | 3 => k0_pay55 (PR I 3 c) (PR I 3 (pt false c))

/-- and as it is sent on; -/
def QR (j : Fin 4) (c : Dev nD) : Rows F := match j with
  | 0 => k0_pay25 (PR I 0 c) (PR I 0 (pt false c))
  | 1 => k0_pay38 (PR I 1 c) (PR I 1 (pt false c))
  | 2 => k0_pay53 (PR I 2 c) (PR I 2 (pt false c))
  | 3 => k0_pay56 (PR I 3 c) (PR I 3 (pt false c))

/-- what is sent in either stage; -/
def XX (st : Bool) (j : Fin 4) (c : Dev nD) : Rows F := match st with
  | false => PR I j c
  | true => QR I j c

/-- the result's rows of a slot. -/
def OU (j : Fin 4) (c : Dev nD) : Vec F S1x128x512 .f32 := match j with
  | 0 => k0_pay39 (pair I 0 c) (XX I true 0 (pt true c))
  | 1 => k0_pay54 (pair I 1 c) (XX I true 1 (pt true c))
  | 2 => k0_pay57 (pair I 2 c) (XX I true 2 (pt true c))
  | 3 => k0_pay59 (k0_pay58 (pair I 3 c) (XX I true 3 (pt true c)))

/-! ## The four slots make up the result -/

set_option backward.proofsInPublic true in
/-- The slot an entry of the result lies in, -/
def slotOf (i : S2x256x512.Idx) : Fin 4 :=
  ⟨2 * (i 0).val + (i 1).val / 128, by
    have h0 : (i 0).val < 2 := (i 0).isLt
    have h1 : (i 1).val < 256 := (i 1).isLt
    omega⟩

set_option backward.proofsInPublic true in
/-- and its place in the slot. -/
def inSlot (i : S2x256x512.Idx) : S1x128x512.Idx :=
  ix3 0 ⟨(i 1).val % 128, Nat.mod_lt _ (by decide)⟩ ⟨(i 2).val, (i 2).isLt⟩

/-- The result, as every device computes it. -/
def outAt (c : Dev nD) : (cc0_stg5_0 : Ref sig .tc).ty.Contents (Elt F) := fun i => OU I (slotOf i) c (inSlot i)

omit [FloatOps F] [Named F] in
/-- An entry of the slot just stored is what was stored; -/
theorem putOut_hit (j : Fin 4) (w : Vec F S1x128x512 .f32) (f : (cc0_stg5_0 : Ref sig .tc).ty.Contents (Elt F)) (i : S2x256x512.Idx) (h : slotOf i = j) :
    putOut (rj j) w f i = w (inSlot i) := by
  have e : (rO (rj j)).emb (inSlot i) = i := by
    funext a
    apply Fin.ext
    rw [Rect.emb_apply]
    have h0 : (i 0).val < 2 := (i 0).isLt
    have h1 : (i 1).val < 256 := (i 1).isLt
    have hv := congrArg Fin.val h
    simp only [slotOf] at hv
    fin_cases j <;> fin_cases a <;> simp [inSlot, ix3, Rect.unit, rj] at hv ⊢ <;> omega
  have := View.write_emb_of_mem (v := oM.access (rO (rj j))) (Val := Elt F) f w (Finset.mem_univ (inSlot i))
  conv_lhs => rw [← e]
  exact this

omit [FloatOps F] [Named F] in
/-- every other entry is what it was. -/
theorem putOut_miss (j : Fin 4) (w : Vec F S1x128x512 .f32) (f : (cc0_stg5_0 : Ref sig .tc).ty.Contents (Elt F)) (i : S2x256x512.Idx) (h : slotOf i ≠ j) :
    putOut (rj j) w f i = f i := by
  refine View.write_of_not_mem (v := oM.access (rO (rj j))) (Val := Elt F) f w _ fun hm => h ?_
  obtain ⟨x, -, hx⟩ := Finset.mem_map.mp hm
  have hx0 : (rO (rj j)).emb x 0 = i 0 := congrFun hx 0
  have hx1 : (rO (rj j)).emb x 1 = i 1 := congrFun hx 1
  have e0 := (Rect.emb_apply (rO (rj j)) x 0).symm.trans (congrArg Fin.val hx0)
  have e1 := (Rect.emb_apply (rO (rj j)) x 1).symm.trans (congrArg Fin.val hx1)
  have b0 : (x 0).val < 1 := (x 0).isLt
  have b1 : (x 1).val < 128 := (x 1).isLt
  apply Fin.ext
  fin_cases j <;> simp [slotOf, Rect.unit, rj] at e0 e1 ⊢ <;> omega

omit [FloatOps F] [Named F] in
/-- Storing all four slots fixes the whole result, whatever it held. -/
theorem putOut_all (W : Fin 4 → Vec F S1x128x512 .f32) (f : (cc0_stg5_0 : Ref sig .tc).ty.Contents (Elt F)) :
    putOut (1, 1) (W 3) (putOut (1, 0) (W 2) (putOut (0, 1) (W 1) (putOut (0, 0) (W 0) f))) = fun i => W (slotOf i) (inSlot i) := by
  funext i
  show putOut (rj 3) (W 3) (putOut (rj 2) (W 2) (putOut (rj 1) (W 1) (putOut (rj 0) (W 0) f))) i = _
  by_cases h3 : slotOf i = 3
  · rw [putOut_hit _ _ _ _ h3, h3]
  rw [putOut_miss _ _ _ _ h3]
  by_cases h2 : slotOf i = 2
  · rw [putOut_hit _ _ _ _ h2, h2]
  rw [putOut_miss _ _ _ _ h2]
  by_cases h1 : slotOf i = 1
  · rw [putOut_hit _ _ _ _ h1, h1]
  rw [putOut_miss _ _ _ _ h1]
  have h0 : slotOf i = 0 := by
    generalize slotOf i = j at *
    revert j; decide
  rw [putOut_hit _ _ _ _ h0, h0]

end Cert.Exchange
-- ==== Proof.Body.lean ====
/-
The body, whole: from a device's start to its end.
-/
module

public import proofs.«01_k».proof.Proof.Contents

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Ins F) (X : Bool → Fin 4 → Dev nD → Rows F) (K : Dev nD × CK → ℕ) (c : Dev nD)

/-! ## The cells close -/

/-- A cell past its round is closed: its semaphore is the device's again, at zero. -/
theorem close_cell (k : CK) : iprop(ctx X K ∗ atPos ER (kcell (c, k)) 1 ∅ 0) ⊢ |={Set.univ}=> (semVal (kcell (c, k)) 0 : sProp 𝕄) := by
  unfold ctx
  iintro ⟨⟨#HR, -⟩, H⟩
  imod (Rounds.cell_close ER (Rd X) (Set.mem_univ (K (c, k))) (fun h => h) (R := 0 + 1) (duties_later X (kcell (c, k)))) $$ [H] with Hz
  · isplitr; · iapply (records_inv X K (c, k)); iexact HR
    iexact H
  imodintro
  iexact Hz

/-- A finished copy gives back its two semaphores, both at zero. -/
theorem close_copy (st : Bool) (j : Fin 4) :
    iprop(ctx X K ∗ T3 c st j) ⊢ |={Set.univ}=> (iprop(semVal (kcell (c, snd st j)) 0 ∗ semVal (kcell (c, rcv st j)) 0) : sProp 𝕄) := by
  unfold T3
  iintro ⟨#HX, H1, H2⟩
  imod (close_cell X K c (snd st j)) $$ [H1] with Hz
  · isplitr; · iexact HX
    iexact H1
  imod (close_cell X K c (rcv st j)) $$ [H2] with Hz'
  · isplitr; · iexact HX
    iexact H2
  imodintro
  isplitl [Hz] <;> iassumption

/-! ## Start and end -/

/-- What device `c` starts from besides its buffers: its positions, the tokens of the payments it makes, the credit of the ones it receives. -/
def started : sProp 𝕄 :=
  iprop(ctx X K ∗ dutyTok ER (kcell (pt false c, none)) 0 false ∗ dutyTok ER (kcell (pt true c, none)) 0 true
    ∗ cred (tallyAt (kcell (c, none)) () 2) ∗ atPos ER (kcell (c, none)) 0 ∅ 0
    ∗ T0 c false 0 ∗ T0 c false 1 ∗ T0 c false 2 ∗ T0 c false 3 ∗ T0 c true 0 ∗ T0 c true 1 ∗ T0 c true 2 ∗ T0 c true 3)

/-- The four exchange buffers, each whole. -/
def bufs : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- Both semaphores of a copy, at zero. -/
def zero2 (st : Bool) (j : Fin 4) : sProp 𝕄 := iprop(semVal (kcell (c, snd st j)) 0 ∗ semVal (kcell (c, rcv st j)) 0)

/-- All of the exchange's semaphores of device `c`, at zero. -/
def zeros : sProp 𝕄 :=
  iprop(semVal (kcell (c, none)) 0 ∗ zero2 c false 0 ∗ zero2 c false 1 ∗ zero2 c false 2 ∗ zero2 c false 3 ∗ zero2 c true 0 ∗ zero2 c true 1 ∗ zero2 c true 2 ∗ zero2 c true 3)

/-- The four scratch buffers are cut into their slots, -/
theorem slots_of_bufs : bufs c ⊢ (iprop(slots4 s1s c ∗ slots4 s1r c ∗ slots4 s2s c ∗ slots4 s2r c) : sProp 𝕄) := by
  unfold bufs slots4
  iintro ⟨⟨%f0, H0⟩, ⟨%f1, H1⟩, ⟨%f2, H2⟩, ⟨%f3, H3⟩⟩
  isplitl [H0]; · iapply (slots_of_whole s1s (View.set_whole _) c f0); iexact H0
  isplitl [H1]; · iapply (slots_of_whole s1r (View.set_whole _) c f1); iexact H1
  isplitl [H2]; · iapply (slots_of_whole s2s (View.set_whole _) c f2); iexact H2
  iapply (slots_of_whole s2r (View.set_whole _) c f3); iexact H3

/-- Four slots of a buffer, each at whatever it holds, make up the buffer again. -/
theorem buf_of_slots (M : Scr) (hM : M.view.set = Finset.univ) :
    (slots4 M c : sProp 𝕄) ⊢ iprop(∃ f : Buf (Elt F) (M.view.loc (c : Thread nD τ)), M.view.loc (c : Thread nD τ) ↦{fullShare} f) := by
  unfold slots4 slotAny
  iintro ⟨⟨%Y0, H0⟩, H1⟩
  unfold slotPt
  icases H0 with ⟨%f₀, %h0, H0⟩
  iapply (whole_of_slots M hM c f₀)
  isplitl [H0]
  · unfold slotAny slotPt; iexists Y0, f₀
    isplitr; · ipureintro; exact h0
    iexact H0
  iexact H1

/-- and the slots of all four buffers make them up again. -/
theorem bufs_of_slots : (iprop(slots4 s1s c ∗ slots4 s1r c ∗ slots4 s2s c ∗ slots4 s2r c) : sProp 𝕄) ⊢ bufs c := by
  unfold bufs
  iintro ⟨H0, H1, H2, H3⟩
  isplitl [H0]; · iapply (buf_of_slots c s1s (View.set_whole _)); iexact H0
  isplitl [H1]; · iapply (buf_of_slots c s1r (View.set_whole _)); iexact H1
  isplitl [H2]; · iapply (buf_of_slots c s2s (View.set_whole _)); iexact H2
  iapply (buf_of_slots c s2r (View.set_whole _)); iexact H3

/-- A slot held outright is one held at whatever it holds. -/
theorem slotAny_of (M : Scr) (j : Fin 4) (Y : Rows F) : (slotPt M c j fullShare Y : sProp 𝕄) ⊢ slotAny M c j := by
  unfold slotAny
  iintro H; iexists Y; iexact H

/-- A slot's lent half and its kept half make the slot whole again. -/
theorem slotAny_of_lent (j : Fin 4) (Y Y' : Rows F) : (iprop(slotPt s1s c j (lend false) Y ∗ slotPt s1s c j fullShare.right Y') : sProp 𝕄) ⊢ slotAny s1s c j :=
  slot_join s1s c j Y Y'

/-- At the end every cell of the device gives back its semaphore at zero. -/
theorem close_all :
    iprop(ctx X K ∗ atPos ER (kcell (c, none)) 1 ∅ 0 ∗ T3 c false 0 ∗ T3 c false 1 ∗ T3 c false 2 ∗ T3 c false 3 ∗ T3 c true 0 ∗ T3 c true 1 ∗ T3 c true 2 ∗ T3 c true 3) ⊢ |={Set.univ}=> zeros (F := F) c := by
  unfold zeros zero2
  iintro ⟨#HX, Hat, HT10, HT11, HT12, HT13, HT20, HT21, HT22, HT23⟩
  imod (close_cell X K c none) $$ [Hat] with Hz
  · isplitr; · iexact HX
    iexact Hat
  imod (close_copy X K c false 0) $$ [HT10] with HZ10
  · isplitr; · iexact HX
    iexact HT10
  imod (close_copy X K c false 1) $$ [HT11] with HZ11
  · isplitr; · iexact HX
    iexact HT11
  imod (close_copy X K c false 2) $$ [HT12] with HZ12
  · isplitr; · iexact HX
    iexact HT12
  imod (close_copy X K c false 3) $$ [HT13] with HZ13
  · isplitr; · iexact HX
    iexact HT13
  imod (close_copy X K c true 0) $$ [HT20] with HZ20
  · isplitr; · iexact HX
    iexact HT20
  imod (close_copy X K c true 1) $$ [HT21] with HZ21
  · isplitr; · iexact HX
    iexact HT21
  imod (close_copy X K c true 2) $$ [HT22] with HZ22
  · isplitr; · iexact HX
    iexact HT22
  imod (close_copy X K c true 3) $$ [HT23] with HZ23
  · isplitr; · iexact HX
    iexact HT23
  imodintro
  isplitl [Hz]; · iexact Hz
  isplitl [HZ10]; · iexact HZ10
  isplitl [HZ11]; · iexact HZ11
  isplitl [HZ12]; · iexact HZ12
  isplitl [HZ13]; · iexact HZ13
  isplitl [HZ20]; · iexact HZ20
  isplitl [HZ21]; · iexact HZ21
  isplitl [HZ22]; · iexact HZ22
  iexact HZ23

set_option maxRecDepth 8000 in
/-- The body on device `c`: from its start, its buffers and its staged inputs, to its semaphores at zero and the result computed. -/
theorem sound_body (f : Buf (Elt F) ((c : Thread nD τ).loc cc0_stg5_0)) (Kt : PUnit → sProp 𝕄) :
    iprop(started (XX I) K c ∗ owesX c items ∗ bufs c ∗ ins I c ∗ outPt c f)
      ⊢ iprop((iprop(zeros c ∗ owesX c [] ∗ bufs c ∗ ins I c ∗ outPt c (outAt I c)) -∗ Kt ⟨⟩)
        -∗ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5) Kt) := by
  simp only [cc0_body_eq_skeleton]; unfold cc0_body_skel
  unfold started
  iintro ⟨⟨#HX, Ht1, Ht2, Hc, Hat, HT10, HT11, HT12, HT13, HT20, HT21, HT22, HT23⟩, HO, Hb, HI, Hout⟩ HK
  ihave Hs := (slots_of_bufs (F := F) c) $$ Hb
  icases Hs with ⟨HA, HBB, HC, HDD⟩
  unfold items
  rw [wp_bind]
  iapply (part1 I (XX I) K c) $$ [HO Ht1 Ht2 HBB HDD Hc Hat HI]
  · isplitr; · iexact HX
    isplitl [HO]; · iexact HO
    isplitl [Ht1]; · iexact Ht1
    isplitl [Ht2]; · iexact Ht2
    isplitl [HBB]; · iexact HBB
    isplitl [HDD]; · iexact HDD
    isplitl [Hc]; · iexact Hc
    isplitl [Hat]; · iexact Hat
    iexact HI
  iintro ⟨HO, Hat, HEE1, HEE2, HI⟩
  unfold slots4
  icases HA with ⟨HA0, HA1, HA2, HA3⟩
  icases HC with ⟨HC0, HC1, HC2, HC3⟩
  icases HEE1 with ⟨HE10, HE11, HE12, HE13⟩
  icases HEE2 with ⟨HE20, HE21, HE22, HE23⟩
  dsimp only
  rw [wp_bind]
  iapply (part2 (F := F) c _ _ _ _)
  dsimp only
  rw [wp_bind]
  iapply (part3 (XX I) c _ _ _ _ _ _ _ _ _ rfl) $$ [HA0]
  · iexact HA0
  iintro HA0
  rw [wp_bind]
  iapply (part4 I (XX I) K c _ _ _) $$ [HO HT10 HE10 HA0 HI]
  · isplitr; · iexact HX
    isplitl [HO]; · iexact HO
    isplitl [HT10]; · iexact HT10
    isplitl [HE10]; · iexact HE10
    isplitl [HA0]; · iexact HA0
    iexact HI
  iintro ⟨HO, HT10, HA0, HI⟩
  try dsimp only
  rw [wp_bind]
  iapply (part5 (F := F) c _ _ _ _ _ _ _)
  dsimp only
  rw [wp_bind]
  iapply (part6 (XX I) c _ _ _ _ _ _ _ _ _ _ rfl) $$ [HA1]
  · iexact HA1
  iintro HA1
  rw [wp_bind]
  iapply (part7 (XX I) K c _ _ rfl) $$ [HO HT11 HE11 HA1 HT10 HA0 HC0]
  · isplitr; · iexact HX
    isplitl [HO]; · iexact HO
    isplitl [HT11]; · iexact HT11
    isplitl [HE11]; · iexact HE11
    isplitl [HA1]; · iexact HA1
    isplitl [HT10]; · iexact HT10
    isplitl [HA0]; · iexact HA0
    iexact HC0
  iintro ⟨HO, HT11, HA1, HT10, HB0, HA0, HC0⟩
  try dsimp only
  rw [wp_bind]
  iapply (part8 I (XX I) K c _ _) $$ [HO HT20 HE20 HC0 HI]
  · isplitr; · iexact HX
    isplitl [HO]; · iexact HO
    isplitl [HT20]; · iexact HT20
    isplitl [HE20]; · iexact HE20
    isplitl [HC0]; · iexact HC0
    iexact HI
  iintro ⟨HO, HT20, HI⟩
  try dsimp only
  rw [wp_bind]
  iapply (part9 (F := F) c _ _ _ _ _)
  dsimp only
  rw [wp_bind]
  iapply (part10 (XX I) K c _ _ _ _ _ _ _ rfl) $$ [HA2 HO HT12 HE12]
  · isplitr; · iexact HX
    isplitl [HA2]; · iexact HA2
    isplitl [HO]; · iexact HO
    isplitl [HT12]; · iexact HT12
    iexact HE12
  iintro ⟨HA2, HO, HT12⟩
  rw [wp_bind]
  iapply (part11 (XX I) K c _ rfl) $$ [HO HT11 HA1 HC1 HT21 HE21]
  · isplitr; · iexact HX
    isplitl [HO]; · iexact HO
    isplitl [HT11]; · iexact HT11
    isplitl [HA1]; · iexact HA1
    isplitl [HC1]; · iexact HC1
    isplitl [HT21]; · iexact HT21
    iexact HE21
  iintro ⟨HO, HT11, HB1, HA1, HT21⟩
  try dsimp only
  rw [wp_bind]
  iapply (part12 I (XX I) K c _ _ _ _ _) $$ [HO HT20 Hout HI]
  · isplitr; · iexact HX
    isplitl [HO]; · iexact HO
    isplitl [HT20]; · iexact HT20
    isplitl [Hout]; · iexact Hout
    iexact HI
  iintro ⟨HO, HT20, HD0, Hout, HI⟩
  try dsimp only
  rw [wp_bind]
  iapply (part13 (F := F) c _ _ _ _ _ _)
  dsimp only
  rw [wp_bind]
  iapply (part14 (XX I) c _ _ _ _ _ _ _ _ _ _ _ rfl) $$ [HA3]
  · iexact HA3
  iintro HA3
  rw [wp_bind]
  iapply (part15 (XX I) K c _ _ rfl) $$ [HO HT13 HE13 HA3 HT12 HA2 HC2]
  · isplitr; · iexact HX
    isplitl [HO]; · iexact HO
    isplitl [HT13]; · iexact HT13
    isplitl [HE13]; · iexact HE13
    isplitl [HA3]; · iexact HA3
    isplitl [HT12]; · iexact HT12
    isplitl [HA2]; · iexact HA2
    iexact HC2
  iintro ⟨HO, HT13, HA3, HT12, HB2, HA2, HC2⟩
  try dsimp only
  rw [wp_bind]
  iapply (part16 (XX I) K c _ _ _ _) $$ [HO HT22 HE22 HC2 HT21 Hout]
  · isplitr; · iexact HX
    isplitl [HO]; · iexact HO
    isplitl [HT22]; · iexact HT22
    isplitl [HE22]; · iexact HE22
    isplitl [HC2]; · iexact HC2
    isplitl [HT21]; · iexact HT21
    iexact Hout
  iintro ⟨HO, HT22, HT21, HD1, Hout⟩
  rw [wp_bind]
  iapply (part17 (XX I) K c _ rfl) $$ [HO HT13 HA3 HC3 HT23 HE23]
  · isplitr; · iexact HX
    isplitl [HO]; · iexact HO
    isplitl [HT13]; · iexact HT13
    isplitl [HA3]; · iexact HA3
    isplitl [HC3]; · iexact HC3
    isplitl [HT23]; · iexact HT23
    iexact HE23
  iintro ⟨HO, HT13, HB3, HA3, HT23⟩
  try dsimp only
  rw [wp_bind]
  iapply (part18 (XX I) K c _ _ _ _ _) $$ [HO HT22 Hout HT23]
  · isplitr; · iexact HX
    isplitl [HO]; · iexact HO
    isplitl [HT22]; · iexact HT22
    isplitl [Hout]; · iexact Hout
    iexact HT23
  iintro %w ⟨HO, HT22, HD2, Hout, HT23, HD3⟩
  try dsimp only
  rw [wp_bind]
  iapply (part19 (XX I) K c _ _ _) $$ [Hout HO HT10 HT20 HT11]
  · isplitr; · iexact HX
    isplitl [Hout]; · iexact Hout
    isplitl [HO]; · iexact HO
    isplitl [HT10]; · iexact HT10
    isplitl [HT20]; · iexact HT20
    iexact HT11
  iintro ⟨Hout, HO, HT10, HL0, HT20, HC0, HT11, HL1⟩
  rw [wp_bind]
  iapply (part20 (XX I) K c ) $$ [HO HT21 HT12 HT22]
  · isplitr; · iexact HX
    isplitl [HO]; · iexact HO
    isplitl [HT21]; · iexact HT21
    isplitl [HT12]; · iexact HT12
    iexact HT22
  iintro ⟨HO, HT21, HC1, HT12, HL2, HT22, HC2⟩
  simp only [Prog.lift, Prog.bind_op, Prog.bind_ret, Prog.pure_eq_ret]
  iapply (sent (XX I) K c false 3 _ rfl (show (slot s1s 3).view.dmaCredit = N from rfl)) $$ [HO HT13]
  · isplitr; · iexact HX
    isplitl [HO]; · iexact HO
    iexact HT13
  iintro ⟨HO, HT13, HL3⟩
  iapply (sent (XX I) K c true 3 _ rfl (show (slot s2s 3).view.dmaCredit = N from rfl)) $$ [HO HT23]
  · isplitr; · iexact HX
    isplitl [HO]; · iexact HO
    iexact HT23
  iintro ⟨HO, HT23, HC3⟩
  imod (close_all (XX I) K c) $$ [Hat HT10 HT11 HT12 HT13 HT20 HT21 HT22 HT23] with Hz
  · isplitr; · iexact HX
    isplitl [Hat]; · iexact Hat
    isplitl [HT10]; · iexact HT10
    isplitl [HT11]; · iexact HT11
    isplitl [HT12]; · iexact HT12
    isplitl [HT13]; · iexact HT13
    isplitl [HT20]; · iexact HT20
    isplitl [HT21]; · iexact HT21
    isplitl [HT22]; · iexact HT22
    iexact HT23
  rw [wp_ret]; imodintro
  iapply HK
  isplitl [Hz]; · iexact Hz
  isplitl [HO]; · iexact HO
  isplitl [HL0 HL1 HL2 HL3 HA0 HA1 HA2 HA3 HB0 HB1 HB2 HB3 HC0 HC1 HC2 HC3 HD0 HD1 HD2 HD3]
  · iapply (bufs_of_slots (F := F) c)
    unfold slots4
    isplitl [HL0 HL1 HL2 HL3 HA0 HA1 HA2 HA3]
    · isplitl [HL0 HA0]; · iapply (slotAny_of_lent c 0 _ _); isplitl [HL0] <;> iassumption
      isplitl [HL1 HA1]; · iapply (slotAny_of_lent c 1 _ _); isplitl [HL1] <;> iassumption
      isplitl [HL2 HA2]; · iapply (slotAny_of_lent c 2 _ _); isplitl [HL2] <;> iassumption
      iapply (slotAny_of_lent c 3 _ _); isplitl [HL3] <;> iassumption
    isplitl [HB0 HB1 HB2 HB3]
    · isplitl [HB0]; · iapply (slotAny_of c s1r 0 _); iexact HB0
      isplitl [HB1]; · iapply (slotAny_of c s1r 1 _); iexact HB1
      isplitl [HB2]; · iapply (slotAny_of c s1r 2 _); iexact HB2
      iapply (slotAny_of c s1r 3 _); iexact HB3
    isplitl [HC0 HC1 HC2 HC3]
    · isplitl [HC0]; · iapply (slotAny_of c s2s 0 _); iexact HC0
      isplitl [HC1]; · iapply (slotAny_of c s2s 1 _); iexact HC1
      isplitl [HC2]; · iapply (slotAny_of c s2s 2 _); iexact HC2
      iapply (slotAny_of c s2s 3 _); iexact HC3
    isplitl [HD0]; · iapply (slotAny_of c s2r 0 _); iexact HD0
    isplitl [HD1]; · iapply (slotAny_of c s2r 1 _); iexact HD1
    isplitl [HD2]; · iapply (slotAny_of c s2r 2 _); iexact HD2
    iapply (slotAny_of c s2r 3 _); iexact HD3
  isplitl [HI]; · iexact HI
  rw [show (outAt I c : (cc0_stg5_0 : Ref sig .tc).ty.Contents (Elt F)) = _ from (putOut_all (fun j => OU I j c) f).symm]
  iexact Hout

end Cert.Exchange
-- ==== Proof.Run.lean ====
/-
The launch of the exchange, and the run of the whole program.

The launch deals every device the tokens of the payments it makes, its positions, and the credit of the payments it receives;
the body's theorem takes a device from there to its result, and the run of the program follows.
-/
module

public import proofs.«01_k».proof.Proof.Body
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import Idealize.ShloMosaic.Lib.Pipeline.Value
public import Idealize.ShloMosaic.Lib.Tactic
public import Idealize.ShloMosaic.Lib.Quiescent

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- The state at launch: the given memory and generator registers, every counter at zero. -/
def atLaunch : MemSt nD τ sig (Elt F) := ⟨m, fun _ => 0, ρ⟩

set_option maxRecDepth 8000 in
/-- The staged inputs: each device's argument arrays. -/
def inputs : Ins F where
  x c := (win0_0.blk t0_0).view.read (Elt F) ((atLaunch m ρ).mem (win0_0.arr.view.loc (c : Thread nD τ)))
  wq c := (win0_1.blk t0_0).view.read (Elt F) ((atLaunch m ρ).mem (win0_1.arr.view.loc (c : Thread nD τ)))
  k c := (win0_2.blk t0_0).view.read (Elt F) ((atLaunch m ρ).mem (win0_2.arr.view.loc (c : Thread nD τ)))
  v c := (win0_3.blk t0_0).view.read (Elt F) ((atLaunch m ρ).mem (win0_3.arr.view.loc (c : Thread nD τ)))
  wo c := (win0_4.blk t0_0).view.read (Elt F) ((atLaunch m ρ).mem (win0_4.arr.view.loc (c : Thread nD τ)))

/-- What the copies of the run carry. -/
abbrev carried : Bool → Fin 4 → Dev nD → Rows F := XX (inputs m ρ)

/-- What the body starts from besides its buffers, under some names of the cells' invariants. -/
def start (c : Dev nD) : sProp 𝕄 := iprop(∃ K, started (carried m ρ) K c)

/-! ## The proof data -/

/-- The proof data: the arrays as launched, the inputs left in place and the result computed; a device owes its payments
    before the body and nothing after it. -/
def dats (_ : Fin 1) (c : Dev nD) : Dat τ (Elt F) Unit ℕ UU ℕ cfg0 c where
  A w := (atLaunch m ρ).mem ((cfg0.win w).arr.view.loc (c : Thread nD τ))
  after w _ := match w with
    | ⟨0, _⟩ => (inputs m ρ).x c
    | ⟨1, _⟩ => (inputs m ρ).wq c
    | ⟨2, _⟩ => (inputs m ρ).k c
    | ⟨3, _⟩ => (inputs m ρ).v c
    | ⟨4, _⟩ => (inputs m ρ).wo c
    | ⟨5, _⟩ => outAt (inputs m ρ) c
  Φ t := match t with
    | ⟨0, _⟩ => iprop(start m ρ c ∗ bufs c)
    | ⟨_ + 1, _⟩ => iprop(zeros c ∗ bufs c)
  q _ := fullShare
  owed t := match t with
    | ⟨0, _⟩ => debt c items
    | ⟨_ + 1, _⟩ => debt c []

/-- A window's stage, held at the contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- Owning a stage whole is holding it at its contents. -/
theorem owns_stage (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- A conjunction over the six windows, written out. -/
theorem windows_eq (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

/-- What the pipeline hands the body: the invariant, the debt, and the six stages. -/
def handed (c : Dev nD) : sProp 𝕄 :=
  iprop((start m ρ c ∗ bufs c) ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

/-- What the body hands back. -/
def returned (c : Dev nD) : sProp 𝕄 :=
  iprop((zeros c ∗ bufs c) ∗ (dats m ρ 0 c).owesAt () t0_0.succ
    ∗ stg c cc0_stg0_0 ((inputs m ρ).x c) ∗ stg c cc0_stg1_0 ((inputs m ρ).wq c) ∗ stg c cc0_stg2_0 ((inputs m ρ).k c)
    ∗ stg c cc0_stg3_0 ((inputs m ρ).v c) ∗ stg c cc0_stg4_0 ((inputs m ρ).wo c) ∗ stg c cc0_stg5_0 (outAt (inputs m ρ) c))

/-- The stages arrive holding the device's inputs: `x`, -/
theorem before_x (c : Dev nD) (d) : (dats m ρ 0 c).before (0 : Fin 6) t0_0 d = (inputs m ρ).x c := by
  unfold Dat.before; rw [if_pos (fetch0_0 t0_0)]; rfl
/-- `Wq`, -/
theorem before_wq (c : Dev nD) (d) : (dats m ρ 0 c).before (1 : Fin 6) t0_0 d = (inputs m ρ).wq c := by
  unfold Dat.before; rw [if_pos (fetch0_1 t0_0)]; rfl
/-- the keys, -/
theorem before_k (c : Dev nD) (d) : (dats m ρ 0 c).before (2 : Fin 6) t0_0 d = (inputs m ρ).k c := by
  unfold Dat.before; rw [if_pos (fetch0_2 t0_0)]; rfl
/-- the values, -/
theorem before_v (c : Dev nD) (d) : (dats m ρ 0 c).before (3 : Fin 6) t0_0 d = (inputs m ρ).v c := by
  unfold Dat.before; rw [if_pos (fetch0_3 t0_0)]; rfl
/-- and `Wo`. -/
theorem before_wo (c : Dev nD) (d) : (dats m ρ 0 c).before (4 : Fin 6) t0_0 d = (inputs m ρ).wo c := by
  unfold Dat.before; rw [if_pos (fetch0_4 t0_0)]; rfl

/-- A stage held at known contents is the plain points-to. -/
theorem stg_elim (c : Dev nD) (b : Ref sig .tc) (X : b.ty.Contents (Elt F)) : stg c b X ⊢ (((c : Thread nD τ).loc b) ↦{fullShare} X : sProp 𝕄) := by
  iintro ⟨%f, %h, H⟩; subst h; iexact H
/-- And a plain points-to is a stage held at those contents. -/
theorem stg_intro (c : Dev nD) (b : Ref sig .tc) (X : b.ty.Contents (Elt F)) : (((c : Thread nD τ).loc b) ↦{fullShare} X : sProp 𝕄) ⊢ stg c b X := by
  iintro H; iexists X; isplitr; · (ipureintro; rfl)
  iexact H

/-- The debt on entry is all of the items, -/
theorem owes_enter (c : Dev nD) : (dats m ρ 0 c).owesAt () t0_0.castSucc ⊢ (owesX c items : sProp 𝕄) := by
  unfold Dat.owesAt Pipeline.owesWithin owesX
  rw [show (dats m ρ 0 c).owed t0_0.castSucc = debt c items from rfl]
  iintro ⟨%W, %hW, HO⟩
  iexists W; iexact HO
/-- and on exit there is none. -/
theorem owes_exit (c : Dev nD) : (owesX c [] : sProp 𝕄) ⊢ (dats m ρ 0 c).owesAt () t0_0.succ := by
  unfold Dat.owesAt Pipeline.owesWithin owesX
  rw [show (dats m ρ 0 c).owed t0_0.succ = debt c [] from rfl]
  iintro ⟨%W, HO⟩
  iexists W; isplitr; · ipureintro; exact fun _ _ => Or.inl trivial
  iexact HO

/-- From what it is handed, the body runs to what it hands back. -/
theorem sound_handed (c : Dev nD) :
    handed m ρ c ⊢ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5) (fun _ => returned m ρ c) := by
  unfold handed start
  iintro ⟨⟨⟨%K, Hst⟩, Hb⟩, Ho, ⟨%d0, H0⟩, ⟨%d1, H1⟩, ⟨%d2, H2⟩, ⟨%d3, H3⟩, ⟨%d4, H4⟩, ⟨%d5, %f5, -, H5⟩⟩
  rw [before_x, before_wq, before_k, before_v, before_wo]
  ihave HO := (owes_enter m ρ c) $$ Ho
  iapply (sound_body (inputs m ρ) K c f5 (fun _ => returned m ρ c)) $$ [Hst HO Hb H0 H1 H2 H3 H4 H5]
  · isplitl [Hst]; · iexact Hst
    isplitl [HO]; · iexact HO
    isplitl [Hb]; · iexact Hb
    isplitr [H5]
    · unfold ins
      isplitl [H0]; · iapply (stg_elim c cc0_stg0_0 ((inputs m ρ).x c)); iexact H0
      isplitl [H1]; · iapply (stg_elim c cc0_stg1_0 ((inputs m ρ).wq c)); iexact H1
      isplitl [H2]; · iapply (stg_elim c cc0_stg2_0 ((inputs m ρ).k c)); iexact H2
      isplitl [H3]; · iapply (stg_elim c cc0_stg3_0 ((inputs m ρ).v c)); iexact H3
      iapply (stg_elim c cc0_stg4_0 ((inputs m ρ).wo c)); iexact H4
    · iexact H5
  iintro ⟨Hz, HO, Hb, HI, Hout⟩
  unfold returned ins
  icases HI with ⟨H0, H1, H2, H3, H4⟩
  isplitl [Hz Hb]
  · isplitl [Hz] <;> iassumption
  isplitl [HO]; · iapply (owes_exit m ρ c); iexact HO
  isplitl [H0]; · iapply (stg_intro c cc0_stg0_0 ((inputs m ρ).x c)); iexact H0
  isplitl [H1]; · iapply (stg_intro c cc0_stg1_0 ((inputs m ρ).wq c)); iexact H1
  isplitl [H2]; · iapply (stg_intro c cc0_stg2_0 ((inputs m ρ).k c)); iexact H2
  isplitl [H3]; · iapply (stg_intro c cc0_stg3_0 ((inputs m ρ).v c)); iexact H3
  isplitl [H4]; · iapply (stg_intro c cc0_stg4_0 ((inputs m ρ).wo c)); iexact H4
  iapply (stg_intro c cc0_stg5_0 (outAt (inputs m ρ) c)); iexact Hout

set_option maxRecDepth 4000 in
/-- The body's obligation to the pipeline, on device `c`. -/
theorem body_obligation (c : Dev nD) : BodyObligation (dats (F := F) m ρ 0 c) (defs₀ (F := F)) 𝒱₀ () Set.univ := fun t => by
  rw [fin_N0 t]
  rw [windows_eq, windows_eq]
  simp only [owns_stage]
  exact sound_handed m ρ c

/-! ## The launch -/

/-- The body's own DMA semaphores. -/
def osem (x : Bool × Bool × Fin 4) : SemLoc sig := csem (some x)

/-- They are all different, and none of them is the pipeline's. -/
theorem ownSemFacts : Pipeline.OwnSemFacts cfg0.spec osem := by decide

/-- Every window's array is held outright. -/
theorem share_eq (c : Dev nD) (w : Fin cfg0.W) : (dats m ρ 0 c).share w = fullShare := by unfold Dat.share; split <;> rfl

/-- Every cell of the exchange. -/
def allCells : Finset (GSem nD τ sig) := Finset.univ.map ⟨kcell, kcell_injective⟩

/-- A device's duty tokens: its barrier's second one, and the first of every cell. -/
def tokOf (ct : Dev nD × Option CK) : GSem nD τ sig × ℕ × Bool := match ct.2 with
  | none => (kcell (ct.1, none), 0, true)
  | some k => (kcell (ct.1, k), 0, false)
/-- No token is dealt twice. -/
theorem tokOf_injective : Function.Injective tokOf := by
  rintro ⟨c, t⟩ ⟨c', t'⟩ h
  rcases t with _ | k <;> rcases t' with _ | k'
  · have h1 : c = c' := congrArg (fun x : GSem nD τ sig × ℕ × Bool => x.1.1.1) h
    rw [h1]
  · exact Bool.noConfusion (congrArg (fun x : GSem nD τ sig × ℕ × Bool => x.2.2) h : true = false)
  · exact Bool.noConfusion (congrArg (fun x : GSem nD τ sig × ℕ × Bool => x.2.2) h : false = true)
  · have h1 : (c, k) = (c', k') := kcell_injective (congrArg Prod.fst h)
    rw [(Prod.mk.inj h1).1, (Prod.mk.inj h1).2]
/-- Every duty token. -/
def allToks : Finset (GSem nD τ sig × ℕ × Bool) := Finset.univ.map ⟨tokOf, tokOf_injective⟩

/-- The ghost state at launch: the pipeline's and the exchange's. -/
def u₀ : UU := (initOf (Pipeline.cells cfgs cellOf_inj) (Pipeline.launchToks cfgs cellOf_inj), initOf allCells allToks)

/-! ### Conjunctions over a device's cells -/

/-- A conjunction over an option type: the absent case, and the present ones. -/
theorem bigSep_option {α : Type} [Fintype α] [DecidableEq α] (Φ : Option α → sProp 𝕄) :
    bigSep Finset.univ Φ = iprop(Φ none ∗ bigSep Finset.univ fun a => Φ (some a)) := by
  rw [bigSep_univ_at _ none, show (Finset.univ.erase none : Finset (Option α)) = Finset.univ.map ⟨some, Option.some_injective α⟩ from by
    ext x; cases x <;> simp, bigSep_map]
  rfl

/-- A stage and a slot. -/
abbrev Cp : Type := Bool × Fin 4

/-- A conjunction over a device's cells: the barrier's, each completion's, and each landing's. -/
theorem bigSep_cells (Φ : CK → sProp 𝕄) :
    bigSep Finset.univ Φ = iprop(Φ none ∗ (bigSep Finset.univ fun b : Cp => Φ (snd b.1 b.2)) ∗ bigSep Finset.univ fun b : Cp => Φ (rcv b.1 b.2)) := by
  rw [bigSep_option, bigSep_univ_prod, bigSep_univ_eq_bigSepL [false, true] (by decide) (by decide), bigSepL_cons_cons, bigSepL_singleton]
  rfl

/-- A conjunction over the copies, written out. -/
theorem bigSep_copies (Φ : Cp → sProp 𝕄) :
    bigSep Finset.univ Φ = iprop(Φ (false, 0) ∗ Φ (false, 1) ∗ Φ (false, 2) ∗ Φ (false, 3) ∗ Φ (true, 0) ∗ Φ (true, 1) ∗ Φ (true, 2) ∗ Φ (true, 3)) :=
  bigSep_univ_eq_bigSepL [(false, 0), (false, 1), (false, 2), (false, 3), (true, 0), (true, 1), (true, 2), (true, 3)] (by decide) (by decide) Φ

/-! ### What the launch deals -/

/-- The duty tokens of device `c`'s own cells. -/
def toks (c : Dev nD) : sProp 𝕄 :=
  bigSep Finset.univ fun t : Option CK => dutyTok ER (tokOf (c, t)).1 (tokOf (c, t)).2.1 (tokOf (c, t)).2.2

/-- What the launch deals device `c`, -/
def G (c : Dev nD) : sProp 𝕄 :=
  iprop((bigSep Finset.univ fun k : CK => roundState ER (Rd (carried m ρ)) (kcell (c, k)) 0)
    ∗ (bigSep Finset.univ fun k : CK => iprop(atPos ER (kcell (c, k)) 0 ∅ 0 ∗ reached ER (kcell (c, k)) 0)) ∗ toks c)

/-- the tokens of the payments device `c` makes, -/
def payToks (c : Dev nD) : sProp 𝕄 :=
  iprop(dutyTok ER (kcell (pt false c, none)) 0 false ∗ dutyTok ER (kcell (pt true c, none)) 0 true
    ∗ (bigSep Finset.univ fun b : Cp => dutyTok ER (kcell (c, snd b.1 b.2)) 0 false)
    ∗ bigSep Finset.univ fun b : Cp => dutyTok ER (kcell (pt b.1 c, rcv b.1 b.2)) 0 false)

/-- what stays with it alone, -/
def linear (c : Dev nD) : sProp 𝕄 := iprop((bigSep Finset.univ fun k : CK => atPos ER (kcell (c, k)) 0 ∅ 0) ∗ payToks c)

/-- and what the launch's one global step makes of it. -/
def G' (c : Dev nD) : sProp 𝕄 := iprop(∃ K, records (carried m ρ) K ∗ linear c)

/-- The exchange's ghost state at launch is every device's deal. -/
theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks toks; rw [bigSep_map, bigSep_univ_prod]; rfl
  iintro HX
  imod (Rounds.fund ER (Rd (carried m ρ)) allCells allToks) $$ HX with ⟨Hst, Hr, Hat, Htok⟩
  imodintro
  ihave Hst' := (Entails.of_eq (hX fun g => roundState ER (Rd (carried m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### The semaphores -/

/-- The launch's one unscoped semaphore is the barrier's. -/
theorem unscopedSems_eq (c : Dev nD) : (unscopedSems0 c : sProp 𝕄) = semVal (kcell (c, none)) 0 := by
  unfold unscopedSems0; rw [bigSep_eq_bigSepL_of_eq [SemLoc.reg barS] (by decide) (by decide)]; rfl

/-- All of a device's semaphores of the exchange at zero: the barrier's, and the body's own. -/
theorem sems_eq (c : Dev nD) :
    (bigSep Finset.univ fun k : CK => semVal (kcell (c, k)) 0 : sProp 𝕄)
      = iprop(unscopedSems0 c ∗ Pipeline.ownSems0 (Ix := Unit) (Name := ℕ) (U := UU) (Lvl := ℕ) (Val := Elt F) (τ := τ) osem c) := by
  rw [bigSep_option, unscopedSems_eq]; rfl

/-- A device's semaphores at zero, as one conjunction over its cells. -/
theorem zeros_eq (c : Dev nD) : (zeros c : sProp 𝕄) = bigSep Finset.univ fun k : CK => semVal (kcell (c, k)) 0 := by
  rw [bigSep_cells, ← bigSep_sep', bigSep_copies]; rfl

/-- Device `c`'s cells are set up. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (Rd (carried m ρ)) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun k : CK => semVal (kcell (c, k)) 0) ∗ bigSep Finset.univ fun k : CK => roundState ER (Rd (carried m ρ)) (kcell (c, k)) 0)
      ⊢ (|={Set.univ}=> bigSep Finset.univ fun k => iprop(∃ κ : ℕ, cellInv ER (Rd (carried m ρ)) κ (kcell (c, k))) : sProp 𝕄) from by
        rw [← bigSep_sep']
        exact (bigSep_mono fun k _ => (Rounds.body_intro ER (Rd (carried m ρ)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The partner of a stage, as a permutation of the devices paired with the copies. -/
def ptCp : Dev nD × Cp ≃ Dev nD × Cp :=
  ⟨fun x => (pt x.2.1 x.1, x.2), fun x => (pt x.2.1 x.1, x.2), fun x => by simp only [pt_pt], fun x => by simp only [pt_pt]⟩

/-- The landings' tokens dealt to the devices that pay them. -/
theorem landings_around : (bigSep Finset.univ fun c : Dev nD => (bigSep Finset.univ fun b : Cp => (dutyTok ER (kcell (c, rcv b.1 b.2)) 0 false : sProp 𝕄)))
    = bigSep Finset.univ fun c : Dev nD => bigSep Finset.univ fun b : Cp => dutyTok ER (kcell (pt b.1 c, rcv b.1 b.2)) 0 false := by
  rw [← bigSep_univ_prod (fun x : Dev nD × Cp => (dutyTok ER (kcell (x.1, rcv x.2.1 x.2.2)) 0 false : sProp 𝕄)), bigSep_univ_equiv ptCp,
    ← bigSep_univ_prod (fun x : Dev nD × Cp => (dutyTok ER (kcell (pt x.2.1 x.1, rcv x.2.1 x.2.2)) 0 false : sProp 𝕄))]
  rfl

/-- Every device's tokens, dealt to the devices that pay them. -/
theorem toks_around : (bigSep Finset.univ fun c : Dev nD => (toks c : sProp 𝕄)) ⊢ bigSep Finset.univ fun c : Dev nD => payToks c := by
  have e (c : Dev nD) : (toks c : sProp 𝕄) = iprop(dutyTok ER (kcell (c, none)) 0 true ∗ dutyTok ER (kcell (c, none)) 0 false
      ∗ (bigSep Finset.univ fun b : Cp => dutyTok ER (kcell (c, snd b.1 b.2)) 0 false) ∗ bigSep Finset.univ fun b : Cp => dutyTok ER (kcell (c, rcv b.1 b.2)) 0 false) := by
    unfold toks; rw [bigSep_option, bigSep_cells]; rfl
  rw [bigSep_congr fun c _ => e c]
  unfold payToks
  rw [bigSep_sep', bigSep_sep', bigSep_sep', bigSep_sep', bigSep_sep', bigSep_sep', landings_around,
    bigSep_univ_equiv (ptE true) (fun c : Dev nD => (dutyTok ER (kcell (c, none)) 0 true : sProp 𝕄)),
    bigSep_univ_equiv (ptE false) (fun c : Dev nD => (dutyTok ER (kcell (c, none)) 0 false : sProp 𝕄))]
  iintro ⟨H1, H2, H3, H4⟩
  isplitl [H2]; · iexact H2
  isplitl [H1]; · iexact H1
  isplitl [H3] <;> iassumption

/-- The records and one device's part make up what that device starts with. -/
theorem linear_deal (K : Dev nD × CK → ℕ) (c : Dev nD) : iprop(records (carried m ρ) K ∗ linear c) ⊢ G' m ρ c := by
  unfold G'
  iintro H; iexists K; iexact H

/-- Something persistent serves every member of a conjunction. -/
theorem bigSep_share {I : Type} [DecidableEq I] {S : Finset I} {P : sProp 𝕄} [BI.Persistent P] {Φ Ψ : I → sProp 𝕄}
    (h : ∀ i ∈ S, iprop(P ∗ Φ i) ⊢ Ψ i) : iprop(P ∗ bigSep S Φ) ⊢ bigSep S Ψ :=
  (sep_mono_left (BI.bigSep_of_persistent S P)).trans (by rw [← bigSep_sep']; exact bigSep_mono h)

/-- The devices' cells once set up, regrouped: the records to all, the rest to each. -/
theorem regroup :
    (bigSep Finset.univ fun c : Dev nD => iprop((bigSep Finset.univ fun k : CK => iprop(∃ κ : ℕ, cellInv ER (Rd (carried m ρ)) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (Rd (carried m ρ)) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd (carried m ρ)) κ (kcell ck) : sProp 𝕄))) $$ HI
  icases HK with ⟨%K, #HI⟩
  ihave Htk := (toks_around (F := F)) $$ Htok
  iapply (bigSep_share (P := records (carried m ρ) K) fun c _ => linear_deal m ρ K c)
  isplitr
  · unfold records; isplitl; · iexact HI
    iexact HR
  · iapply (Entails.of_eq (bigSep_sep' Finset.univ (fun c : Dev nD => bigSep Finset.univ fun k : CK => (atPos ER (kcell (c, k)) 0 ∅ 0 : sProp 𝕄)) payToks).symm)
    isplitl [Hat]; · iexact Hat
    iexact Htk

/-- The launch's global step: every device's semaphores and deal, to what each starts from. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

/-- How many payments a cell receives. -/
def paid (k : CK) : ℕ := items.countP (fun i => i.2 = k)

/-- What a cell's owner is dealt: credit for all that the mesh owes the cell. -/
theorem launch_cell (c : Dev nD) (k : CK) :
    tallyOn (kcell (c, k)) (launchCredit (Pipeline.owing fun d => debt d items) 0 (kcell (c, k))) = (tallyAt (kcell (c, k)) () (paid k * amtK k) : CellTallies nD τ sig Unit) := by
  unfold tallyAt; refine congrArg _ (Finsupp.ext fun u => ?_); cases u
  rw [Pipeline.launchCredit_owing, Finsupp.single_eq_same]
  exact debt_sum c k items

/-- The credit a device starts with: two units for its barrier, and each landing's. -/
theorem creds (c : Dev nD) :
    (Pipeline.launchCred (fun d => debt d items) c : sProp 𝕄)
      ⊢ iprop(cred (tallyAt (kcell (c, none)) () 2) ∗ bigSep Finset.univ fun b : Cp => cred (tallyAt (kcell (c, rcv b.1 b.2)) () N)) := by
  have e : ∀ b : Cp, paid (rcv b.1 b.2) = 1 := by decide
  unfold Pipeline.launchCred
  refine (BI.bigSep_subset (Finset.subset_univ (Finset.univ.map ⟨csem, csem_injective⟩))).trans ?_
  rw [bigSep_map]
  refine (Entails.of_eq (bigSep_congr (s := Finset.univ) (Ψ := fun k : CK => (cred (tallyAt (kcell (c, k)) () (paid k * amtK k)) : sProp 𝕄))
    fun k _ => congrArg cred (launch_cell c k))).trans ?_
  rw [bigSep_cells, bigSep_congr (s := Finset.univ) (Φ := fun b : Cp => (cred (tallyAt (kcell (c, rcv b.1 b.2)) () (paid (rcv b.1 b.2) * amtK (rcv b.1 b.2))) : sProp 𝕄))
      (Ψ := fun b : Cp => cred (tallyAt (kcell (c, rcv b.1 b.2)) () N)) fun b _ => by rw [e, Nat.one_mul]; rfl]
  iintro ⟨H1, -, H3⟩
  isplitl [H1]; · iexact H1
  iexact H3

/-! ### The theorem's side conditions -/

/-- What a device holds for its copies, gathered copy by copy. -/
theorem gather_copies (c : Dev nD) :
    iprop((bigSep Finset.univ fun b : Cp => atPos ER (kcell (c, snd b.1 b.2)) 0 ∅ 0) ∗ (bigSep Finset.univ fun b : Cp => atPos ER (kcell (c, rcv b.1 b.2)) 0 ∅ 0)
      ∗ (bigSep Finset.univ fun b : Cp => dutyTok ER (kcell (c, snd b.1 b.2)) 0 false) ∗ (bigSep Finset.univ fun b : Cp => dutyTok ER (kcell (pt b.1 c, rcv b.1 b.2)) 0 false)
      ∗ bigSep Finset.univ fun b : Cp => cred (tallyAt (kcell (c, rcv b.1 b.2)) () N))
    = (bigSep Finset.univ fun b : Cp => T0 c b.1 b.2 : sProp 𝕄) := by
  unfold T0
  rw [bigSep_sep', bigSep_sep', bigSep_sep', bigSep_sep']

/-- What a device starts from, assembled. -/
theorem started_intro (K : Dev nD × CK → ℕ) (c : Dev nD) :
    iprop(records (carried m ρ) K ∗ levAts L lv ∗ linear c ∗ Pipeline.launchCred (fun d => debt d items) c) ⊢ started (carried m ρ) K c := by
  unfold linear payToks started ctx
  rw [bigSep_cells]
  iintro ⟨#HR, #Hlev, ⟨⟨HaB, HaS, HaR⟩, Ht1, Ht2, HtS, HtR⟩, Hcr⟩
  ihave Hc := (creds (F := F) c) $$ Hcr
  icases Hc with ⟨HcB, HcR⟩
  ihave HT := (Entails.of_eq ((gather_copies (F := F) c).trans (bigSep_copies _))) $$ [HaS HaR HtS HtR HcR]
  · isplitl [HaS]; · iexact HaS
    isplitl [HaR]; · iexact HaR
    isplitl [HtS]; · iexact HtS
    isplitl [HtR] <;> iassumption
  isplitr
  · isplitr; · iexact HR
    iexact Hlev
  isplitl [Ht1]; · iexact Ht1
  isplitl [Ht2]; · iexact Ht2
  isplitl [HcB]; · iexact HcB
  isplitl [HaB]; · iexact HaB
  iexact HT

/-- What the launch deals a device is what its body starts from. -/
theorem start_intro (c : Dev nD) :
    iprop(Pipeline.unscopedRestP Pipeline.Prefetch.none cfg0.spec c (fun b => m ((c : Thread nD τ).loc b)) ∗ levAts L lv
        ∗ Pipeline.launchCred (fun d => debt d items) c ∗ prngReg c (ρ c) ∗ G' m ρ c)
      ⊢ |={Set.univ}=> iprop(start m ρ c ∗ emp) := by
  unfold G' start
  iintro ⟨-, Hlev, Hcr, -, ⟨%K, HR, Hl⟩⟩
  imodintro
  isplitl
  · iexists K
    iapply (started_intro m ρ K c)
    isplitl [HR]; · iexact HR
    isplitl [Hlev]; · iexact Hlev
    isplitl [Hl] <;> iassumption
  · iempintro

/-- The body's invariant holds at the first step, -/
theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m ρ c ∗ bufs c) from rfl, scopedRest0_eq]
  unfold bufs
  iintro ⟨Hs, -, Hr⟩
  isplitl [Hs] <;> iassumption

/-- and after the last it gives back the semaphores and the scratch buffers. -/
theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(zeros c ∗ bufs c) from rfl, scopedRest0_eq, zeros_eq, sems_eq]
  unfold bufs
  iintro ⟨⟨HzB, HzO⟩, Hr⟩
  isplitl [HzB]; · iexact HzB
  isplitl [HzO] <;> iassumption

/-- The pipeline's own waits come before everything the device owes. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ 0 (by fin_cases w <;> fin_cases s <;> decide) items (by decide)
    · exact mayWait c _ 0 (by fin_cases w <;> fin_cases s <;> decide) [] (by decide)

/-! ## The run -/

/-- A window's array after the run. -/
def finalA (c : Dev nD) (w : Fin cfg0.W) : Buf (Elt F) ((cfg0.win w).arr.view.loc (c : Thread nD τ)) := (dats m ρ 0 c).arrAt w cfg0.N

/-- Every window's array is as computed. -/
def AtEnd : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, every weakly fair execution of the program on the four devices terminates with every
    window's array as computed and every semaphore counter at zero. -/
theorem run_main : θ_run defs (onTc (τ := τ) (main (F := F))) (atLaunch m ρ) (fun r => AtEnd m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => debt d items) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays after the run -/

/-- An argument's array after the run holds what it held. -/
theorem final_arg (c : Dev nD) (w : Fin cfg0.W) (hw : (cfg0.win w).isOut = false) : finalA m ρ c w = (atLaunch m ρ).mem ((cfg0.win w).arr.view.loc (c : Thread nD τ)) :=
  (dats (F := F) m ρ 0 c).arrAt_in w hw _

/-- The one grid point of the program is the first. -/
theorem N_eq : cfg0.N = (t0_0 : Fin cfg0.N).val + 1 := by decide

/-- The result's array after the run, read as the window's block, is what the body left in its stage. -/
theorem final_read (c : Dev nD) : (win0_5.blk t0_0).view.read (Elt F) (finalA m ρ c (5 : Fin 6)) = outAt (inputs m ρ) c := by
  unfold finalA
  rw [N_eq, (dats m ρ 0 c).arrAt_succ (5 : Fin 6) t0_0, if_pos (flush0_5 t0_0)]
  exact View.read_write_univ _ _

/-- The result's block is the whole array: the array after the run holds what the body left. -/
theorem final_out (c : Dev nD) : finalA m ρ c (5 : Fin 6) = outAt (inputs m ρ) c := by
  have hz : (fun a => (win0_5.index t0_0) a * main_v1.ty.shape.size a) = fun _ => 0 := funext fun a => by fin_cases a <;> decide
  exact (Memref.read_access_unit_zero (Elt F) main_v1 hz (fun a => by fin_cases a <;> decide) _).symm.trans (final_read m ρ c)

/-- The stages of the arguments hold the argument arrays. -/
theorem inputs_x (c : Dev nD) : (inputs m ρ).x c = m ((c : Thread nD τ).loc main_arg0) := by
  have hz : (fun a => (win0_0.index t0_0) a * main_arg0.ty.shape.size a) = fun _ => 0 := funext fun a => by fin_cases a <;> decide
  exact Memref.read_access_unit_zero (Elt F) main_arg0 hz (fun a => by fin_cases a <;> decide) _
/-- `Wq`, -/
theorem inputs_wq (c : Dev nD) : (inputs m ρ).wq c = m ((c : Thread nD τ).loc main_arg1) := by
  have hz : (fun a => (win0_1.index t0_0) a * main_arg1.ty.shape.size a) = fun _ => 0 := funext fun a => by fin_cases a <;> decide
  exact Memref.read_access_unit_zero (Elt F) main_arg1 hz (fun a => by fin_cases a <;> decide) _
/-- the keys, -/
theorem inputs_k (c : Dev nD) : (inputs m ρ).k c = m ((c : Thread nD τ).loc main_arg2) := by
  have hz : (fun a => (win0_2.index t0_0) a * main_arg2.ty.shape.size a) = fun _ => 0 := funext fun a => by fin_cases a <;> decide
  exact Memref.read_access_unit_zero (Elt F) main_arg2 hz (fun a => by fin_cases a <;> decide) _
/-- the values, -/
theorem inputs_v (c : Dev nD) : (inputs m ρ).v c = m ((c : Thread nD τ).loc main_arg3) := by
  have hz : (fun a => (win0_3.index t0_0) a * main_arg3.ty.shape.size a) = fun _ => 0 := funext fun a => by fin_cases a <;> decide
  exact Memref.read_access_unit_zero (Elt F) main_arg3 hz (fun a => by fin_cases a <;> decide) _
/-- and `Wo`. -/
theorem inputs_wo (c : Dev nD) : (inputs m ρ).wo c = m ((c : Thread nD τ).loc main_arg4) := by
  have hz : (fun a => (win0_4.index t0_0) a * main_arg4.ty.shape.size a) = fun _ => 0 := funext fun a => by fin_cases a <;> decide
  exact Memref.read_access_unit_zero (Elt F) main_arg4 hz (fun a => by fin_cases a <;> decide) _

end Cert.Exchange
-- ==== Proof.Frames.lean ====
/-
The claims that speak of no value: that each program runs, leaves its arguments as they were and every counter at zero, and that
the idealized kernel differs from the kernel by the named mask alone.
-/
module

public import proofs.«01_k».proof.Defs
public import proofs.«01_k».proof.Proof.Run
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal
public import Idealize.ShloMosaic.Lib.Quiescent

@[expose] public section

noncomputable section

namespace Cert.Exchange

open Idealize.ShloMosaic Idealize.SL.Sem
open Idealize.ShloMosaic.TcCoe

/-- At the machine's own words a named constant is the word it is written with. -/
@[reducible] def namedBits : Named Bits := ⟨fun _ _ {φ} b => Scalar.ofBits φ b⟩

section
variable {F : FTy → Type} [FloatOps F] [Named F]

/-- From any memory with zero counters, the idealized kernel at any float values ends with its five arguments as they were and
    with every counter at zero. -/
theorem args_kept (m : (ℓ : Loc Cert.KernelIdeal.nD Cert.KernelIdeal.τ Cert.KernelIdeal.sig) → Buf (Elt F) ℓ) (ρ : Dev Cert.KernelIdeal.nD → PrngReg)
    (r : _) (h : AtEnd m ρ r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) :=
  ⟨(h c (0 : Fin 6)).trans (final_arg m ρ c 0 rfl), (h c (1 : Fin 6)).trans (final_arg m ρ c 1 rfl), (h c (2 : Fin 6)).trans (final_arg m ρ c 2 rfl),
    (h c (3 : Fin 6)).trans (final_arg m ρ c 3 rfl), (h c (4 : Fin 6)).trans (final_arg m ρ c 4 rfl)⟩
end

section
attribute [local instance] namedBits

/-- At the machine's words the idealized kernel's one body is the kernel's: a named constant there is the constant. -/
theorem bodies_eq : Cert.Kernel.defs₀ (F := Bits) = Cert.KernelIdeal.defs₀ (F := Bits) := by
  funext p l a
  cases p with
  | tc =>
    match l, a with
    | 0, (t, s) => exact congrFun (congrFun (congrFun (congrFun (congrFun (congrFun (congrFun (congrFun (congrFun (congrFun (congrFun (congrFun (congrFun (congrFun (congrFun (congrFun (congrFun (congrFun (congrFun (congrFun (congrFun (congrFun (rfl : Cert.Kernel.cc0_body (F := Bits) = Cert.KernelIdeal.cc0_body (F := Bits)) _) _) _) _) _) _) _) _) _) _) _) _) _) _) _) _) _) _) _) _) _) _
    | ⟨_ + 1, h⟩, _ => exact absurd h (Nat.not_lt.2 (Nat.le_add_left _ _))
  | scScalar _ => rfl
  | scVector _ _ => rfl

/-- At the machine's words the two programs have one table of bodies. -/
theorem tables_eq : Cert.Kernel.defs (F := Bits) = Cert.KernelIdeal.defs (F := Bits) :=
  congrArg (Pipeline.defs (Cert.KernelIdeal.pcfgs (F := Bits))) bodies_eq

/-- The kernel over the machine's floats runs, keeps its arguments and ends with every counter at zero. -/
theorem frame_kernel : Cert.quiescent_Kernel := fun m ρ _ => by
  rw [tables_eq]
  exact (θ_run Cert.KernelIdeal.defs (onTc (τ := Cert.KernelIdeal.τ) (Cert.KernelIdeal.main (F := Bits))) (atLaunch m ρ)).mono
    (fun r (h : AtEnd (F := Bits) m ρ r ∧ r.2.sem = fun _ => 0) => And.intro (fun c => args_kept (F := Bits) m ρ r h.1 c) h.2) (run_main (F := Bits) m ρ)
end

/-- The kernel over the reals runs, keeps its arguments and ends with every counter at zero. -/
theorem frame_kernelIdeal : Cert.quiescent_KernelIdeal := fun m ρ _ =>
  (θ_run Cert.KernelIdeal.defs _ _).mono (fun r h => ⟨fun c => args_kept m ρ r h.1 c, h.2⟩) (run_main (F := Ideal) m ρ)

/-- The same from the memories of the precondition. -/
theorem frame_kernelIdeal_pre : Cert.quiescent_KernelIdeal_pre_finite_scores_KernelIdeal := fun m ρ _ =>
  frame_kernelIdeal m ρ trivial

/-- The reference over the reals runs, keeps its arguments and ends with every counter at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same from the memories of the precondition. -/
theorem frame_reference_pre : Cert.quiescent_ReferenceIdeal_pre_finite_scores_ReferenceIdeal := fun m ρ _ =>
  frame_reference m ρ trivial

/-- The one constant that the idealized kernel names, the mask, is minus infinity by the certificate's table. -/
theorem mask_named : Cert.preserves_Kernel_KernelIdeal :=
  IdealRules.named_const.statement Cert.KernelIdeal.κ "mask" .f32 0xC1F00000#32 ⊥ rfl

end Cert.Exchange

end
-- ==== Proof.Weight.lean ====
/-
One row of attention weights over the reals: the exponentials over their sum are the same whether or not the row's greatest
score is taken from every score first, because a hidden key's score is minus infinity and a seen one's is a real number.
-/
module

public import Idealize.ShloMosaic.Lib.Pointwise

@[expose] public section

noncomputable section

namespace Cert.Exchange

open Idealize.ShloMosaic

/-- A value that is a real number, neither infinity. -/
def IsReal (x : EReal) : Prop := ∃ r : ℝ, x = ↑r

/-- A product of real numbers is one. -/
theorem IsReal.mul {x y : EReal} (hx : IsReal x) (hy : IsReal y) : IsReal (x * y) := by
  obtain ⟨r, rfl⟩ := hx
  obtain ⟨s, rfl⟩ := hy
  exact ⟨r * s, (EReal.coe_mul r s).symm⟩

/-- A finite sum of real numbers, as a sum over the reals. -/
theorem sum_coe {ι : Type} (s : Finset ι) (g : ι → ℝ) : ∑ i ∈ s, (g i : EReal) = ((∑ i ∈ s, g i : ℝ) : EReal) := by
  induction s using Finset.cons_induction with
  | empty => simp
  | cons a s ha ih => rw [Finset.sum_cons, Finset.sum_cons, ih, EReal.coe_add]

/-- A finite sum of real numbers is one. -/
theorem IsReal.sum {ι : Type} (s : Finset ι) {f : ι → EReal} (hf : ∀ i, IsReal (f i)) : IsReal (∑ i ∈ s, f i) := by
  choose g hg using hf
  exact ⟨∑ i ∈ s, g i, by rw [Finset.sum_congr rfl fun i _ => hg i, sum_coe]⟩

/-- A value whose magnitude is below infinity is a real number. -/
theorem isReal_of_ne {x : EReal} (h₁ : x ≠ ⊤) (h₂ : x ≠ ⊥) : IsReal x := ⟨x.toReal, (EReal.coe_toReal h₁ h₂).symm⟩

/-- The exponential of a real number. -/
theorem exp_real (r : ℝ) : Ideal.exp (r : EReal) = (Real.exp r : EReal) := rfl

/-- The exponential of minus infinity. -/
theorem exp_bot : Ideal.exp ⊥ = 0 := rfl

/-- The scale of the scores. -/
theorem scale_eq : Ideal.ofBits .f32 0x3E000000#32 = ((1 / 8 : ℝ) : EReal) := by
  simp [Ideal.ofBits, Ideal.ieee, -EReal.coe_mul]
  norm_num

section
variable {n : ℕ} (m : Fin n → BitVec 1) (s : Fin n → EReal)

/-- A row of scores, minus infinity where the key is hidden. -/
def row : Fin n → EReal := fun j => Scalar.select (m j) (s j) ⊥

/-- A seen key's score stands as it is. -/
theorem row_seen {j : Fin n} (h : m j = 1#1) : row m s j = s j := by simp [row, Scalar.select, h]

/-- A hidden key's score is minus infinity. -/
theorem row_hidden {j : Fin n} (h : m j ≠ 1#1) : row m s j = ⊥ := by simp [row, Scalar.select, h]

/-- The greatest score of a row that sees some key is a real number. -/
theorem top_isReal (hs : ∀ j, IsReal (s j)) (hm : ∃ j, m j = 1#1) : IsReal (Finset.fold max ⊥ (row m s) Finset.univ) := by
  apply isReal_of_ne
  · apply ne_of_lt
    rw [Finset.fold_max_lt]
    refine ⟨bot_lt_top, fun j _ => ?_⟩
    by_cases h : m j = 1#1
    · obtain ⟨r, hr⟩ := hs j
      rw [row_seen m s h, hr]
      exact EReal.coe_lt_top r
    · rw [row_hidden m s h]
      exact bot_lt_top
  · obtain ⟨j, h⟩ := hm
    obtain ⟨r, hr⟩ := hs j
    apply ne_of_gt
    refine lt_of_lt_of_le (EReal.bot_lt_coe r) ?_
    rw [Finset.le_fold_max]
    exact .inr ⟨j, Finset.mem_univ j, by rw [row_seen m s h, hr]⟩

/-- THE WEIGHTS AGREE: an exponential times the reciprocal of the row's sum is the exponential above the row's greatest score
    over the sum of those. -/
theorem weight_eq (hs : ∀ j, IsReal (s j)) (hm : ∃ j, m j = 1#1) (j : Fin n) :
    Ideal.exp (row m s j) * Ideal.div 1 (∑ x, Ideal.exp (row m s x))
      = Ideal.div (Ideal.exp (row m s j - Finset.fold max ⊥ (row m s) Finset.univ))
          (∑ x, Ideal.exp (row m s x - Finset.fold max ⊥ (row m s) Finset.univ)) := by
  obtain ⟨μ, hμ⟩ := top_isReal m s hs hm
  rw [hμ]
  choose r hr using hs
  let e : Fin n → ℝ := fun x => if m x = 1#1 then Real.exp (r x) else 0
  have he : ∀ x, Ideal.exp (row m s x) = (e x : EReal) := by
    intro x
    by_cases h : m x = 1#1
    · rw [row_seen m s h, hr, exp_real]
      simp only [e, if_pos h]
    · rw [row_hidden m s h, exp_bot]
      simp only [e, if_neg h, EReal.coe_zero]
  have he' : ∀ x, Ideal.exp (row m s x - (μ : EReal)) = ((e x * Real.exp (-μ) : ℝ) : EReal) := by
    intro x
    by_cases h : m x = 1#1
    · rw [row_seen m s h, hr, ← EReal.coe_sub, exp_real, sub_eq_add_neg]
      simp only [e, if_pos h, ← Real.exp_add]
    · rw [row_hidden m s h, EReal.bot_sub, exp_bot]
      simp only [e, if_neg h, zero_mul, EReal.coe_zero]
  have hpos : 0 < ∑ x, e x := by
    obtain ⟨j₀, h₀⟩ := hm
    refine Finset.sum_pos' (fun x _ => ?_) ⟨j₀, Finset.mem_univ _, ?_⟩
    · by_cases h : m x = 1#1
      · simp only [e, if_pos h]
        exact (Real.exp_pos _).le
      · simp only [e, if_neg h]
        exact le_refl _
    · simp only [e, if_pos h₀]
      exact Real.exp_pos _
  have hne : (∑ x, e x) ≠ 0 := hpos.ne'
  have hc : Real.exp (-μ) ≠ 0 := (Real.exp_pos _).ne'
  rw [Finset.sum_congr rfl fun x _ => he x, Finset.sum_congr rfl fun x _ => he' x, he, he', sum_coe, sum_coe, ← Finset.sum_mul]
  have hd : ((∑ x, e x : ℝ) : EReal) ≠ 0 := by exact_mod_cast hne
  have hd' : (((∑ x, e x) * Real.exp (-μ) : ℝ) : EReal) ≠ 0 := by exact_mod_cast mul_ne_zero hne hc
  rw [Ideal.div, if_neg hd, Ideal.div, if_neg hd', one_mul, ← EReal.coe_inv, ← EReal.coe_inv, ← EReal.coe_mul, ← EReal.coe_mul]
  congr 1
  field_simp
end

end Cert.Exchange

end
-- ==== Proof.Head.lean ====
/-
One device's partial product of one slot, the same for all four slots: four heads of masked attention, each a function of its
columns of the queries, keys and values, side by side, times the device's rows of the output projection.
-/
module

public import proofs.«01_k».proof.Proof.Contents
public import proofs.«01_k».proof.Proof.Weight
public import Idealize.ShloMosaic.Lib.Pointwise
public import Idealize.ShloMosaic.Lib.ValueLayout

@[expose] public section

noncomputable section

namespace Cert.Exchange

open Cert.KernelIdeal Cert.KernelIdeal.Gen

open Idealize.ShloMosaic

section
variable {F : FTy → Type} [FloatOps F] [Named F]

/-- Which keys the rows `r0 …` see: those at most 128 places away. -/
def near (r0 : BitVec 32) : IVec S128x256 1 :=
  cmpi .sle (absi (subi (addi (iota .tc S128x256 32 [0] iota_S128x256_d0_w32) (broadcast S128x256 r0)) colI)) (broadcast S128x256 128#32)

/-- The exponentials of one head's masked scores. -/
def expo (sees : IVec S128x256 1) (q : FVec F S128x64 .bf16) (k : FVec F S256x64 .bf16) : FVec F S128x256 .f32 :=
  exp (select sees (mulf (matmul dot_S128x64_S256x64_S128x256_1_1_0_0_n_n none q k (constant S128x256 .f32 0x00000000#32)) (broadcast S128x256 (Scalar.ofBits .f32 0x3E000000#32)))
    (broadcast S128x256 (Named.named κ "mask" 0xC1F00000#32)))

/-- A matrix with each row divided by its sum. -/
def share (e : FVec F S128x256 .f32) : FVec F S128x256 .f32 :=
  mulf e (broadcastTo S128x256 (divf (broadcast S128x1 (Scalar.ofBits .f32 0x3F800000#32))
    (shapeCast S128x1 (multiReduction .add [1] S128 e 0x00000000#32 reduces_S128x256_S128 (.inl rfl) rfl) shapeCasts_S128_S128x1)) broadcasts_S128x1_S128x256)

/-- One head: the values weighted by the shares of the masked scores. -/
def head (sees : IVec S128x256 1) (q : FVec F S128x64 .bf16) (k v : FVec F S256x64 .bf16) : FVec F S128x64 .bf16 :=
  truncf .bf16 (matmul dot_S128x256_S256x64_S128x64_1_0_0_1_n_n none (truncf .bf16 (share (expo sees q k)) bitsLt_bf16_f32) v (constant S128x64 .f32 0x00000000#32)) bitsLt_bf16_f32

/-- The queries of a slot. -/
def quer (wq : Vec F S512x256 .bf16) (x : Vec F S1x128x512 .bf16) : FVec F S128x256 .bf16 :=
  truncf .bf16 (matmul dot_S128x512_S512x256_S128x256_1_0_0_1_n_n none (shapeCast S128x512 x shapeCasts_S1x128x512_S128x512) (shapeCast S512x256 wq shapeCasts_S512x256_S512x256) (constant S128x256 .f32 0x00000000#32)) bitsLt_bf16_f32

/-- A batch's keys or values with the heads side by side. -/
def side (k : Vec F S1x256x4x64 .bf16) : FVec F S256x256 .bf16 :=
  shapeCast S256x256 (shapeCast S256x4x64 k shapeCasts_S1x256x4x64_S256x4x64) shapeCasts_S256x4x64_S256x256

/-- The four heads side by side. -/
def heads (sees : IVec S128x256 1) (q : FVec F S128x256 .bf16) (k v : FVec F S256x256 .bf16) : FVec F S128x256 .bf16 :=
  concatenate S128x256 1
    [⟨S128x64, head sees (extractStridedSlice S128x64 ![0, 0] q slices_S128x256_o0_0_S128x64) (extractStridedSlice S256x64 ![0, 0] k slices_S256x256_o0_0_S256x64) (extractStridedSlice S256x64 ![0, 0] v slices_S256x256_o0_0_S256x64)⟩,
      ⟨S128x64, head sees (extractStridedSlice S128x64 ![0, 64] q slices_S128x256_o0_64_S128x64) (extractStridedSlice S256x64 ![0, 64] k slices_S256x256_o0_64_S256x64) (extractStridedSlice S256x64 ![0, 64] v slices_S256x256_o0_64_S256x64)⟩,
      ⟨S128x64, head sees (extractStridedSlice S128x64 ![0, 128] q slices_S128x256_o0_128_S128x64) (extractStridedSlice S256x64 ![0, 128] k slices_S256x256_o0_128_S256x64) (extractStridedSlice S256x64 ![0, 128] v slices_S256x256_o0_128_S256x64)⟩,
      ⟨S128x64, head sees (extractStridedSlice S128x64 ![0, 192] q slices_S128x256_o0_192_S128x64) (extractStridedSlice S256x64 ![0, 192] k slices_S256x256_o0_192_S256x64) (extractStridedSlice S256x64 ![0, 192] v slices_S256x256_o0_192_S256x64)⟩]
    concatenates_S128x64_S128x64_S128x64_S128x64_S128x256_d1

/-- The partial product of the slot that begins at row `r0`. -/
def part (r0 : BitVec 32) (wq : Vec F S512x256 .bf16) (wo : Vec F S256x512 .bf16) (x : Vec F S1x128x512 .bf16) (k v : Vec F S1x256x4x64 .bf16) : Rows F :=
  shapeCast S1x128x512 (truncf .bf16 (matmul dot_S128x256_S256x512_S128x512_1_0_0_1_n_n none (heads (near r0) (quer wq x) (side k) (side v))
    (shapeCast S256x512 wo shapeCasts_S256x512_S256x512) (constant S128x512 .f32 0x00000000#32)) bitsLt_bf16_f32) shapeCasts_S128x512_S1x128x512

/-- Each slot's partial product is that, at the slot's first row. -/
theorem P0_eq (wq : Vec F S512x256 .bf16) (wo : Vec F S256x512 .bf16) (x : Vec F S1x128x512 .bf16) (k v : Vec F S1x256x4x64 .bf16) : P0 wq wo x k v = part 0#32 wq wo x k v := rfl
/-- The second slot's, from row 128. -/
theorem P1_eq (wq : Vec F S512x256 .bf16) (wo : Vec F S256x512 .bf16) (x : Vec F S1x128x512 .bf16) (k v : Vec F S1x256x4x64 .bf16) : P1 wq wo x k v = part 128#32 wq wo x k v := rfl
/-- The third slot's, from row 0. -/
theorem P2_eq (wq : Vec F S512x256 .bf16) (wo : Vec F S256x512 .bf16) (x : Vec F S1x128x512 .bf16) (k v : Vec F S1x256x4x64 .bf16) : P2 wq wo x k v = part 0#32 wq wo x k v := rfl
/-- The fourth slot's, from row 128. -/
theorem P3_eq (wq : Vec F S512x256 .bf16) (wo : Vec F S256x512 .bf16) (x : Vec F S1x128x512 .bf16) (k v : Vec F S1x256x4x64 .bf16) : P3 wq wo x k v = part 128#32 wq wo x k v := rfl
end

/-! ## The same at an index, over the reals -/

set_option maxRecDepth 16384

/-- The mask at an index: the distance between the row's place and the key's, against 128. -/
theorem near_at (r0 : BitVec 32) (r : Fin 128) (j : Fin 256) :
    near r0 (ix2 r j) = IntOp.cmpi .sle (IntOp.absi (IntOp.subi (IntOp.addi (BitVec.ofNat 32 r) r0) (BitVec.ofNat 32 j))) 128#32 := by
  pointwise [near]

/-- An exponential at an index: the hidden score stands for minus infinity. -/
theorem expo_at (sees : IVec S128x256 1) (q : FVec Ideal S128x64 .bf16) (k : FVec Ideal S256x64 .bf16) (r : Fin 128) (j : Fin 256) :
    expo sees q k (ix2 r j)
      = Ideal.exp (row (fun j => sees (ix2 r j)) (fun j => (∑ d, q (ix2 r d) * k (ix2 j d)) * Ideal.ofBits .f32 0x3E000000#32) j) := by
  pointwise [expo]
  rfl

/-- A share at an index. -/
theorem share_at (e : FVec Ideal S128x256 .f32) (r : Fin 128) (j : Fin 256) :
    share e (ix2 r j) = e (ix2 r j) * Ideal.div 1 (∑ x, e (ix2 r x)) := by
  pointwise [share]

/-- A head at an index. -/
theorem head_at (sees : IVec S128x256 1) (q : FVec Ideal S128x64 .bf16) (k v : FVec Ideal S256x64 .bf16) (r : Fin 128) (d : Fin 64) :
    head sees q k v (ix2 r d) = ∑ x, share (expo sees q k) (ix2 r x) * v (ix2 x d) := by
  pointwise [head]

/-- A query at an index. -/
theorem quer_at (wq : Vec Ideal S512x256 .bf16) (x : Vec Ideal S1x128x512 .bf16) (r : Fin 128) (d : Fin 256) :
    quer wq x (ix2 r d) = ∑ n, x (ix3 0 r n) * wq (ix2 n d) := by
  pointwise [quer]

/-- A key or a value at an index: column `d` is place `d % 64` of head `d / 64`. -/
theorem side_at (k : Vec Ideal S1x256x4x64 .bf16) (r d : Fin 256) :
    side k (ix2 r d) = k (ix4 0 r ⟨d / 64, by omega⟩ ⟨d % 64, by omega⟩) := by
  pointwise [side]

/-- The masked scores of a row, the head that column `t` belongs to. -/
def scoreRow (sees : IVec S128x256 1) (q : FVec Ideal S128x256 .bf16) (k : FVec Ideal S256x256 .bf16) (r : Fin 128) (h : Fin 4) : Fin 256 → EReal :=
  row (fun j => sees (ix2 r j))
    (fun j => (∑ d : Fin 64, q (ix2 r ⟨64 * h + d, by omega⟩) * k (ix2 j ⟨64 * h + d, by omega⟩)) * Ideal.ofBits .f32 0x3E000000#32)

/-- A head of the slices that begin at column `64 h`. -/
theorem head_slices (sees : IVec S128x256 1) (q : FVec Ideal S128x256 .bf16) (k v : FVec Ideal S256x256 .bf16) (h : Fin 4)
    (q' : FVec Ideal S128x64 .bf16) (k' v' : FVec Ideal S256x64 .bf16) (hq : ∀ r d, q' (ix2 r d) = q (ix2 r ⟨64 * h + d, by omega⟩))
    (hk : ∀ r d, k' (ix2 r d) = k (ix2 r ⟨64 * h + d, by omega⟩)) (hv : ∀ r d, v' (ix2 r d) = v (ix2 r ⟨64 * h + d, by omega⟩))
    (r : Fin 128) (d : Fin 64) :
    head sees q' k' v' (ix2 r d)
      = ∑ x, (Ideal.exp (scoreRow sees q k r h x) * Ideal.div 1 (∑ y, Ideal.exp (scoreRow sees q k r h y))) * v (ix2 x ⟨64 * h + d, by omega⟩) := by
  rw [head_at]
  simp only [share_at, expo_at, hq, hk, hv]
  rfl

/-- The four heads at an index: column `64 h + d` is place `d` of head `h`. -/
theorem heads_at (sees : IVec S128x256 1) (q : FVec Ideal S128x256 .bf16) (k v : FVec Ideal S256x256 .bf16) (r : Fin 128) (h : Fin 4) (d : Fin 64) :
    heads sees q k v (ix2 r ⟨64 * h + d, by omega⟩)
      = ∑ x, (Ideal.exp (scoreRow sees q k r h x) * Ideal.div 1 (∑ y, Ideal.exp (scoreRow sees q k r h y))) * v (ix2 x ⟨64 * h + d, by omega⟩) := by
  pointwise [heads]
  match h with
  | 0 =>
    rw [dif_pos (by simp), ← head_slices sees q k v 0 _ _ _ _ _ _ r d]
    · exact congrArg _ (congrArg _ (Fin.ext (by simp)))
    all_goals intro r d; exact ValueIdx.slice2_axis1_apply _ _ _ _ _ _ rfl
  | 1 =>
    rw [dif_neg (by simp <;> omega), dif_pos (by simp), ← head_slices sees q k v 1 _ _ _ _ _ _ r d]
    · exact congrArg _ (congrArg _ (Fin.ext (by simp)))
    all_goals intro r d; exact ValueIdx.slice2_axis1_apply _ _ _ _ _ _ rfl
  | 2 =>
    rw [dif_neg (by simp <;> omega), dif_neg (by simp <;> omega), dif_pos (by simp <;> omega), ← head_slices sees q k v 2 _ _ _ _ _ _ r d]
    · exact congrArg _ (congrArg _ (Fin.ext (by simp <;> omega)))
    all_goals intro r d; exact ValueIdx.slice2_axis1_apply _ _ _ _ _ _ rfl
  | 3 =>
    rw [dif_neg (by simp <;> omega), dif_neg (by simp <;> omega), dif_neg (by simp <;> omega), ← head_slices sees q k v 3 _ _ _ _ _ _ r d]
    · exact congrArg _ (congrArg _ (Fin.ext (by simp <;> omega)))
    all_goals intro r d; exact ValueIdx.slice2_axis1_apply _ _ _ _ _ _ rfl

/-- The partial product at an index. -/
theorem part_at (r0 : BitVec 32) (wq : Vec Ideal S512x256 .bf16) (wo : Vec Ideal S256x512 .bf16) (x : Vec Ideal S1x128x512 .bf16) (k v : Vec Ideal S1x256x4x64 .bf16)
    (r : Fin 128) (n : Fin 512) :
    part r0 wq wo x k v (ix3 0 r n) = ∑ t, heads (near r0) (quer wq x) (side k) (side v) (ix2 r t) * wo (ix2 t n) := by
  pointwise [part]

end Cert.Exchange

end
-- ==== Proof.Refr.lean ====
/-
The reference, cut into its steps: queries, masked scores, weights, context, and the output projection.
-/
module

public import proofs.«01_k».proof.Proof.Gen.ReferenceIdeal.Run
public import Idealize.ShloMosaic.Lib.Pointwise

@[expose] public section

noncomputable section

namespace Cert.Exchange.Refr

open Cert.ReferenceIdeal Cert.ReferenceIdeal.Gen Cert.ReferenceIdeal.Value

open Idealize.ShloMosaic Idealize.ShloMosaic.TcCoe

section
variable {F : FTy → Type} [FloatOps F]

/-- Which keys a row sees: those at most 128 places away. -/
def sees : IVec S256x256 1 :=
  cmpi .sle (absi (subi (broadcastInDim S256x256 ![0, 1] bcast_S256x1_S256x256_0_1 (broadcastInDim S256x1 ![0] bcast_S256_S256x1_0 (iotaInDim S256 32 0)))
    (broadcastInDim S256x256 ![0, 1] bcast_S1x256_S256x256_0_1 (broadcastInDim S1x256 ![1] bcast_S256_S1x256_1 (iotaInDim S256 32 0)))))
    (broadcastInDim S256x256 ![] bcast_S_S256x256 (constantI S_ 32 128#32))

/-- Which rows see any key. -/
def keep : IVec S256 1 := Host.reduce IntOp.ori sees (constantI S_ 1 0#1) reducesTo_S256x256_S256_d1 h_S_

/-- The queries, head by head. -/
def quer (x : FVec F S2x256x512 .bf16) (wq : FVec F S512x1024 .bf16) : FVec F S2x256x16x64 .bf16 :=
  shapeCast S2x256x16x64 (truncf .bf16 (Host.dotGeneral (F := F) dot_S2x256x512_S512x1024_S2x256x1024_2_0_01_1_n_n none x wq) bitsLt_bf16_f32) shapeCasts_S2x256x1024_S2x256x16x64

/-- The scores, minus infinity where the mask hides the key. -/
def scores (q k : FVec F S2x256x16x64 .bf16) : FVec F S2x16x256x256 .f32 :=
  select (broadcastInDim S2x16x256x256 ![0, 1, 2, 3] bcast_S1x1x256x256_S2x16x256x256_0_1_2_3 (broadcastInDim S1x1x256x256 ![2, 3] bcast_S256x256_S1x1x256x256_2_3 sees))
    (mulf (extf .f32 (truncf .bf16 (Host.dotGeneral (F := F) dot_S2x256x16x64_S2x256x16x64_S2x16x256x256_3_3_1_1_02_02 none q k) bitsLt_bf16_f32) bitsLt_bf16_f32)
      (broadcastInDim S2x16x256x256 ![] bcast_S_S2x16x256x256 (constant S_ .f32 0x3E000000#32)))
    (broadcastInDim S2x16x256x256 ![] bcast_S_S2x16x256x256 (id (constant S_ .f32 0xFF800000#32)))

/-- The exponentials of the scores above their row's greatest. -/
def expo (s : FVec F S2x16x256x256 .f32) : FVec F S2x16x256x256 .f32 :=
  Host.exp (subf s (broadcastInDim S2x16x256x256 ![0, 1, 2, 3] bcast_S2x16x256x1_S2x16x256x256_0_1_2_3 (broadcastInDim S2x16x256x1 ![0, 1, 2] bcast_S2x16x256_S2x16x256x1_0_1_2
    (Host.reduce FloatOps.maximumf s (constant S_ .f32 0xFF800000#32) reducesTo_S2x16x256x256_S2x16x256_d3 h_S_))))

/-- The weights: the exponentials over their row's sum, where the row sees a key. -/
def weights (e : FVec F S2x16x256x256 .f32) : FVec F S2x16x256x256 .f32 :=
  select (broadcastInDim S2x16x256x256 ![0, 1, 2, 3] bcast_S1x1x256x1_S2x16x256x256_0_1_2_3 (broadcastInDim S1x1x256x1 ![2] bcast_S256_S1x1x256x1_2 keep))
    (Host.divf e (broadcastInDim S2x16x256x256 ![0, 1, 2, 3] bcast_S2x16x256x1_S2x16x256x256_0_1_2_3
      (select (broadcastInDim S2x16x256x1 ![0, 1, 2, 3] bcast_S1x1x256x1_S2x16x256x1_0_1_2_3 (broadcastInDim S1x1x256x1 ![2] bcast_S256_S1x1x256x1_2 keep))
        (broadcastInDim S2x16x256x1 ![0, 1, 2] bcast_S2x16x256_S2x16x256x1_0_1_2 (Host.reduceAdd e (constant S_ .f32 0x00000000#32) reducesTo_S2x16x256x256_S2x16x256_d3 h_S_))
        (broadcastInDim S2x16x256x1 ![] bcast_S_S2x16x256x1 (id (constant S_ .f32 0x3F800000#32))))))
    (broadcastInDim S2x16x256x256 ![] bcast_S_S2x16x256x256 (id (constant S_ .f32 0x00000000#32)))

/-- The context, the heads side by side. -/
def context (w : FVec F S2x16x256x256 .f32) (v : FVec F S2x256x16x64 .bf16) : FVec F S2x256x1024 .f32 :=
  shapeCast S2x256x1024 (transpose S2x256x16x64 [0, 3, 1, 2] (Host.dotGeneral (F := F) dot_S2x256x16x64_S2x16x256x256_S2x16x64x256_1_3_3_2_02_01 none (extf .f32 v bitsLt_bf16_f32) w)
    transposes_S2x16x64x256_S2x256x16x64_0_3_1_2) shapeCasts_S2x256x16x64_S2x256x1024

/-- The result. -/
def result (c : FVec F S2x256x1024 .f32) (wo : FVec F S1024x512 .bf16) : FVec F S2x256x512 .f32 :=
  Host.dotGeneral (F := F) dot_S2x256x1024_S1024x512_S2x256x512_2_0_01_1_n_n none c (extf .f32 wo bitsLt_bf16_f32)

set_option maxRecDepth 16384 in
/-- The reference's composed term is its steps, one after the other. -/
theorem res_eq (m : (ℓ : Loc nD τ sig) → Buf (Elt F) ℓ) (c : Dev nD) :
    res_out0 m c = result (context (weights (expo (scores (quer (m ((c.tc : Thread nD τ).loc main_arg0)) (m ((c.tc : Thread nD τ).loc main_arg1))) (m ((c.tc : Thread nD τ).loc main_arg2)))))
      (m ((c.tc : Thread nD τ).loc main_arg3))) (m ((c.tc : Thread nD τ).loc main_arg4)) := rfl
end

/-! ## The same at an index, over the reals -/

/-- The mask at an index: the distance between the two places, against 128. -/
theorem sees_at (i j : Fin 256) :
    sees (ix2 i j) = IntOp.cmpi .sle (IntOp.absi (IntOp.subi (BitVec.ofNat 32 i) (BitVec.ofNat 32 j))) 128#32 := by
  pointwise [sees]

/-- A row sees a key when one of its mask's bits is set. -/
theorem keep_fold (i : Fin 256) : keep (ix1 i) = Finset.fold IntOp.ori (0#1) (fun x => sees (ix2 i x)) Finset.univ := by
  pointwise [keep]

/-- Every row sees its own place. -/
theorem sees_self (i : Fin 256) : sees (ix2 i i) = 1#1 := by
  rw [sees_at]
  have : IntOp.subi (BitVec.ofNat 32 (i : ℕ)) (BitVec.ofNat 32 (i : ℕ)) = 0#32 := BitVec.sub_self _
  rw [this]
  decide

/-- So every row is kept. -/
theorem keep_at (i : Fin 256) : keep (ix1 i) = 1#1 := by
  rw [keep_fold, ← Finset.insert_erase (Finset.mem_univ i), Finset.fold_insert (Finset.notMem_erase i _), sees_self]
  generalize Finset.fold IntOp.ori (0#1) (fun x => sees (ix2 i x)) (Finset.univ.erase i) = y
  revert y
  decide

set_option maxRecDepth 16384 in
/-- A query at an index. -/
theorem quer_at (x : FVec Ideal S2x256x512 .bf16) (wq : FVec Ideal S512x1024 .bf16) (b : Fin 2) (i : Fin 256) (h : Fin 16) (d : Fin 64) :
    quer x wq (ix4 b i h d) = ∑ n, x (ix3 b i n) * wq (ix2 n ⟨h * 64 + d, by omega⟩) := by
  pointwise [quer]

set_option maxRecDepth 16384 in
/-- A score at an index. -/
theorem scores_at (q k : FVec Ideal S2x256x16x64 .bf16) (b : Fin 2) (h : Fin 16) (i j : Fin 256) :
    scores q k (ix4 b h i j) = Scalar.select (sees (ix2 i j)) ((∑ d, q (ix4 b i h d) * k (ix4 b j h d)) * Ideal.ofBits .f32 0x3E000000#32) ⊥ := by
  pointwise [scores]
  congr 1

set_option maxRecDepth 16384 in
/-- An exponential at an index. -/
theorem expo_at (s : FVec Ideal S2x16x256x256 .f32) (b : Fin 2) (h : Fin 16) (i j : Fin 256) :
    expo s (ix4 b h i j) = Ideal.exp (s (ix4 b h i j) - Finset.fold max ⊥ (fun x => s (ix4 b h i x)) Finset.univ) := by
  pointwise [expo]
  congr 3

set_option maxRecDepth 16384 in
/-- A weight at an index: every row is kept, so the two choices fall away. -/
theorem weights_at (e : FVec Ideal S2x16x256x256 .f32) (b : Fin 2) (h : Fin 16) (i j : Fin 256) :
    weights e (ix4 b h i j) = Ideal.div (e (ix4 b h i j)) (∑ x, e (ix4 b h i x)) := by
  pointwise [weights]
  rw [keep_at]
  rfl

set_option maxRecDepth 16384 in
/-- The context at an index: column `c` is place `c % 64` of head `c / 64`. -/
theorem context_at (w : FVec Ideal S2x16x256x256 .f32) (v : FVec Ideal S2x256x16x64 .bf16) (b : Fin 2) (i : Fin 256) (c : Fin 1024) :
    context w v (ix3 b i c)
      = ∑ x, v (ix4 b x ⟨c / 64, by omega⟩ ⟨c % 64, by omega⟩) * w (ix4 b ⟨c / 64, by omega⟩ i x) := by
  pointwise [context]

set_option maxRecDepth 16384 in
/-- The result at an index. -/
theorem result_at (c : FVec Ideal S2x256x1024 .f32) (wo : FVec Ideal S1024x512 .bf16) (b : Fin 2) (i : Fin 256) (n : Fin 512) :
    result c wo (ix3 b i n) = ∑ x, c (ix3 b i x) * wo (ix2 x n) := by
  pointwise [result]

end Cert.Exchange.Refr

end
-- ==== Proof.Total.lean ====
/-
The kernel over the reals computes the reference: each device's partial product is its 256 columns' share of the output
projection's sum, and the two stages of the exchange add the four shares on every device.
-/
module

public import proofs.«01_k».proof.Proof.Head
public import proofs.«01_k».proof.Proof.Refr
public import proofs.«01_k».proof.Proof.Frames
public import Idealize.ShloMosaic.Lib.Layout
public import Idealize.ShloMosaic.Lib.LayoutAt

@[expose] public section

noncomputable section

namespace Cert.Exchange

open Cert.KernelIdeal Cert.KernelIdeal.Gen

open Idealize.ShloMosaic Idealize.ShloMosaic.TcCoe Idealize.SL.Sem

/-! ## What the loads read -/

/-- The columns a device loads of `Wq` begin at 256 times its number, -/
theorem off1_eq (c : Dev nD) : k0_off1 c = ![0, 256 * c.val] := by
  fin_cases c <;> decide

/-- and so do the rows it loads of `Wo`. -/
theorem off2_eq (c : Dev nD) : k0_off2 c = ![256 * c.val, 0] := by
  fin_cases c <;> decide

/-- A column of device `c` among all columns. -/
def col (c : Dev nD) (t : Fin 256) : Fin 1024 := ⟨256 * c.val + t, by have : c.val < 4 := c.isLt; omega⟩

/-- A head of device `c` among all heads. -/
def hd (c : Dev nD) (h : Fin 4) : Fin 16 := ⟨4 * c.val + h, by have : c.val < 4 := c.isLt; omega⟩

section
variable (I : Ins Ideal) (c : Dev nD)

/-- The rows of `x` of a slot. -/
theorem lX_at (b h : Fin 2) (r : Fin 128) (n : Fin 512) : lX I (b, h) c (ix3 0 r n) = I.x c (ix3 b ⟨128 * h + r, by omega⟩ n) := by
  refine congrArg (I.x c) ?_
  funext a
  apply Fin.ext
  fin_cases a <;> simp [ix3, Rect.unit]

/-- The keys of a batch. -/
theorem lK_at (b : Fin 2) (j : Fin 256) (h : Fin 4) (d : Fin 64) : lK I b c (ix4 0 j h d) = I.k c (ix4 b j h d) := by
  refine congrArg (I.k c) ?_
  funext a
  apply Fin.ext
  fin_cases a <;> simp [ix4, Rect.unit]

/-- The values of a batch. -/
theorem lV_at (b : Fin 2) (j : Fin 256) (h : Fin 4) (d : Fin 64) : lV I b c (ix4 0 j h d) = I.v c (ix4 b j h d) := by
  refine congrArg (I.v c) ?_
  funext a
  apply Fin.ext
  fin_cases a <;> simp [ix4, Rect.unit]

/-- The device's columns of `Wq`. -/
theorem lWq_at (n : Fin 512) (t : Fin 256) : lWq I c (ix2 n t) = I.wq c (ix2 n (col c t)) := by
  refine congrArg (I.wq c) ?_
  have := off1_eq c
  funext a
  apply Fin.ext
  fin_cases a <;> simp [ix2, col, Rect.unit, this]

/-- The device's rows of `Wo`. -/
theorem lWo_at (t : Fin 256) (n : Fin 512) : lWo I c (ix2 t n) = I.wo c (ix2 (col c t) n) := by
  refine congrArg (I.wo c) ?_
  have := off2_eq c
  funext a
  apply Fin.ext
  fin_cases a <;> simp [ix2, col, Rect.unit, this]

/-- What a device computes of a slot: its partial product, its first partner's, and the same two of its second partner. -/
theorem OU_at (j : Fin 4) (r : Fin 128) (n : Fin 512) :
    OU I j c (ix3 0 r n)
      = PR I j c (ix3 0 r n) + PR I j (pt false c) (ix3 0 r n) + (PR I j (pt true c) (ix3 0 r n) + PR I j (pt false (pt true c)) (ix3 0 r n)) := by
  match j with
  | 0 =>
    show k0_pay39 (k0_pay24 _ _) (k0_pay25 _ _) _ = _
    pointwise [k0_pay39, k0_pay24, k0_pay25]
  | 1 =>
    show k0_pay54 (k0_pay37 _ _) (k0_pay38 _ _) _ = _
    pointwise [k0_pay54, k0_pay37, k0_pay38]
  | 2 =>
    show k0_pay57 (k0_pay52 _ _) (k0_pay53 _ _) _ = _
    pointwise [k0_pay57, k0_pay52, k0_pay53]
  | 3 =>
    show k0_pay59 (k0_pay58 (k0_pay55 _ _) (k0_pay56 _ _)) _ = _
    pointwise [k0_pay59, k0_pay58, k0_pay55, k0_pay56]

/-- The four are the four devices, each once. -/
theorem four (f : Dev nD → EReal) : f c + f (pt false c) + (f (pt true c) + f (pt false (pt true c))) = ∑ d : Fin 4, f d := by
  rw [Fin.sum_univ_four]
  fin_cases c
  · show f 0 + f 1 + (f 3 + f 2) = _
    ac_rfl
  · show f 1 + f 0 + (f 2 + f 3) = _
    ac_rfl
  · show f 2 + f 3 + (f 1 + f 0) = _
    ac_rfl
  · show f 3 + f 2 + (f 0 + f 1) = _
    ac_rfl
end

/-- A slot's batch and half, from its number. -/
theorem rj_val (j : Fin 4) : (rj j).1.val = j.val / 2 ∧ (rj j).2.val = j.val % 2 := by
  revert j
  decide

/-- A sum over all 1024 columns, device by device. -/
theorem sum_col (f : Fin 1024 → EReal) : ∑ T, f T = ∑ c : Fin 4, ∑ t : Fin 256, f (col c t) := by
  rw [← Fintype.sum_prod_type' (f := fun (c : Fin 4) (t : Fin 256) => f (col c t))]
  refine (Fintype.sum_equiv (finProdFinEquiv (m := 4) (n := 256)) _ _ fun p => congrArg f (Fin.ext ?_)).symm
  show 256 * p.1.val + p.2.val = p.2.val + 256 * p.1.val
  omega

/-! ## The whole arrays -/

section
variable (x : FVec Ideal S2x256x512 .bf16) (wq : FVec Ideal S512x1024 .bf16) (K V : FVec Ideal Cert.ReferenceIdeal.S2x256x16x64 .bf16) (wo : FVec Ideal S1024x512 .bf16)

/-- The inputs are the parts of whole arrays: three copied, the keys and values cut along the heads. -/
structure PartsOf (I : Ins Ideal) : Prop where
  x_eq : ∀ c, I.x c = x
  wq_eq : ∀ c, I.wq c = wq
  k_eq : ∀ c b j h d, I.k c (ix4 b j h d) = K (ix4 b j (hd c h) d)
  v_eq : ∀ c b j h d, I.v c (ix4 b j h d) = V (ix4 b j (hd c h) d)
  wo_eq : ∀ c, I.wo c = wo

/-- The reference's scores before the mask and the scale are real numbers when `x`, `Wq` and the keys are. -/
theorem score_isReal (hx : ∀ i, IsReal (x i)) (hwq : ∀ i, IsReal (wq i)) (hK : ∀ i, IsReal (K i)) (b : Fin 2) (H : Fin 16) (i j : Fin 256) :
    IsReal ((∑ d, Refr.quer x wq (ix4 b i H d) * K (ix4 b j H d)) * Ideal.ofBits .f32 0x3E000000#32) := by
  refine (IsReal.sum _ fun d => ?_).mul ⟨1 / 8, scale_eq⟩
  rw [Refr.quer_at]
  exact (IsReal.sum _ fun n => (hx _).mul (hwq _)).mul (hK _)

/-- The reference's row of masked scores. -/
def refRow (b : Fin 2) (H : Fin 16) (i : Fin 256) : Fin 256 → EReal :=
  row (fun j => Refr.sees (ix2 i j)) (fun j => (∑ d, Refr.quer x wq (ix4 b i H d) * K (ix4 b j H d)) * Ideal.ofBits .f32 0x3E000000#32)

/-- The reference's weights are the exponentials over their row's sum. -/
theorem ref_weight (hx : ∀ i, IsReal (x i)) (hwq : ∀ i, IsReal (wq i)) (hK : ∀ i, IsReal (K i)) (b : Fin 2) (H : Fin 16) (i j : Fin 256) :
    Refr.weights (Refr.expo (Refr.scores (Refr.quer x wq) K)) (ix4 b H i j)
      = Ideal.exp (refRow x wq K b H i j) * Ideal.div 1 (∑ y, Ideal.exp (refRow x wq K b H i y)) := by
  rw [Refr.weights_at]
  simp only [Refr.expo_at, Refr.scores_at]
  exact (weight_eq _ _ (fun j => score_isReal x wq K hx hwq hK b H i j) ⟨i, Refr.sees_self i⟩ j).symm

/-- The kernel's mask of a slot is the reference's at the slot's rows. -/
theorem near_eq (h : Fin 2) (r : Fin 128) (j : Fin 256) :
    near (BitVec.ofNat 32 (128 * h.val)) (ix2 r j) = Refr.sees (ix2 ⟨128 * h + r, by omega⟩ j) := by
  rw [near_at, Refr.sees_at]
  have : IntOp.addi (BitVec.ofNat 32 r.val) (BitVec.ofNat 32 (128 * h.val)) = BitVec.ofNat 32 (128 * h.val + r.val) := by
    show BitVec.ofNat 32 r.val + BitVec.ofNat 32 (128 * h.val) = _
    rw [← BitVec.ofNat_add, Nat.add_comm]
  rw [this]

variable {x wq K V wo} {I : Ins Ideal} (hI : PartsOf x wq K V wo I)
include hI

/-- A device's row of masked scores is the reference's of its head. -/
theorem scoreRow_eq (c : Dev nD) (b hf : Fin 2) (r : Fin 128) (h : Fin 4) :
    scoreRow (near (BitVec.ofNat 32 (128 * hf.val))) (quer (lWq I c) (lX I (b, hf) c)) (side (lK I b c)) r h
      = refRow x wq K b (hd c h) ⟨128 * hf + r, by omega⟩ := by
  unfold scoreRow refRow
  congr 1
  · funext j
    exact near_eq hf r j
  · funext j
    congr 1
    refine Finset.sum_congr rfl fun d _ => ?_
    rw [quer_at, side_at, Refr.quer_at, lK_at, hI.k_eq]
    congr 1
    · refine Finset.sum_congr rfl fun n _ => ?_
      rw [lX_at, lWq_at, hI.x_eq, hI.wq_eq]
      congr 3
      exact Fin.ext (by simp [col, hd]; omega)
    · congr 2
      · exact congrArg (hd c) (Fin.ext (by simp; omega))
      · exact Fin.ext (by simp)

/-- A device's heads side by side are the reference's context at the device's columns. -/
theorem heads_eq (hx : ∀ i, IsReal (x i)) (hwq : ∀ i, IsReal (wq i)) (hK : ∀ i, IsReal (K i)) (c : Dev nD) (b hf : Fin 2) (r : Fin 128) (t : Fin 256) :
    heads (near (BitVec.ofNat 32 (128 * hf.val))) (quer (lWq I c) (lX I (b, hf) c)) (side (lK I b c)) (side (lV I b c)) (ix2 r t)
      = Refr.context (Refr.weights (Refr.expo (Refr.scores (Refr.quer x wq) K))) V (ix3 b ⟨128 * hf + r, by omega⟩ (col c t)) := by
  obtain ⟨h, d, rfl⟩ : ∃ (h : Fin 4) (d : Fin 64), t = ⟨64 * h + d, by omega⟩ :=
    ⟨⟨t / 64, by omega⟩, ⟨t % 64, by omega⟩, Fin.ext (by simp; omega)⟩
  rw [heads_at, Refr.context_at]
  refine Finset.sum_congr rfl fun y _ => ?_
  have eH : (⟨(col c ⟨64 * h + d, by omega⟩ : ℕ) / 64, by omega⟩ : Fin 16) = hd c h := Fin.ext (by simp [col, hd]; omega)
  have eD : (⟨(col c ⟨64 * h + d, by omega⟩ : ℕ) % 64, by omega⟩ : Fin 64) = d := Fin.ext (by simp [col]; omega)
  have eh : (⟨(64 * h.val + d.val) / 64, by omega⟩ : Fin 4) = h := Fin.ext (by simp; omega)
  have ed : (⟨(64 * h.val + d.val) % 64, by omega⟩ : Fin 64) = d := Fin.ext (by simp)
  rw [scoreRow_eq hI, side_at, eH, eD, ref_weight x wq K hx hwq hK, lV_at, hI.v_eq, mul_comm]
  simp only [eh, ed]

/-- A device's partial product of a slot: its columns' part of the sum of the output projection. -/
theorem PR_eq (hx : ∀ i, IsReal (x i)) (hwq : ∀ i, IsReal (wq i)) (hK : ∀ i, IsReal (K i)) (c : Dev nD) (j : Fin 4) (r : Fin 128) (n : Fin 512) :
    PR I j c (ix3 0 r n)
      = ∑ t, Refr.context (Refr.weights (Refr.expo (Refr.scores (Refr.quer x wq) K))) V (ix3 (rj j).1 ⟨128 * (rj j).2 + r, by omega⟩ (col c t)) * wo (ix2 (col c t) n) := by
  have key : ∀ b hf : Fin 2, part (BitVec.ofNat 32 (128 * hf.val)) (lWq I c) (lWo I c) (lX I (b, hf) c) (lK I b c) (lV I b c) (ix3 0 r n)
      = ∑ t, Refr.context (Refr.weights (Refr.expo (Refr.scores (Refr.quer x wq) K))) V (ix3 b ⟨128 * hf + r, by omega⟩ (col c t)) * wo (ix2 (col c t) n) := by
    intro b hf
    rw [part_at]
    refine Finset.sum_congr rfl fun t _ => ?_
    rw [heads_eq hI hx hwq hK, lWo_at, hI.wo_eq]
  match j with
  | 0 => exact (congrFun (P0_eq _ _ _ _ _) _).trans (key 0 0)
  | 1 => exact (congrFun (P1_eq _ _ _ _ _) _).trans (key 0 1)
  | 2 => exact (congrFun (P2_eq _ _ _ _ _) _).trans (key 1 0)
  | 3 => exact (congrFun (P3_eq _ _ _ _ _) _).trans (key 1 1)

/-- THE RESULT: every device ends with the reference's. -/
theorem outAt_eq (hx : ∀ i, IsReal (x i)) (hwq : ∀ i, IsReal (wq i)) (hK : ∀ i, IsReal (K i)) (c : Dev nD) :
    outAt I c = Refr.result (Refr.context (Refr.weights (Refr.expo (Refr.scores (Refr.quer x wq) K))) V) wo := by
  funext i
  obtain ⟨b, s, n, rfl⟩ : ∃ (b : Fin 2) (s : Fin 256) (n : Fin 512), i = ix3 b s n := ⟨i 0, i 1, i 2, by funext a; fin_cases a <;> rfl⟩
  show OU I (slotOf (ix3 b s n)) c (ix3 0 ⟨s.val % 128, _⟩ n) = _
  rw [OU_at, four c fun d => PR I (slotOf (ix3 b s n)) d (ix3 0 ⟨s.val % 128, by omega⟩ n), Refr.result_at, sum_col]
  refine Finset.sum_congr rfl fun d _ => ?_
  rw [PR_eq hI hx hwq hK]
  refine Finset.sum_congr rfl fun t _ => ?_
  congr 3
  · exact Fin.ext ((rj_val _).1.trans (by simp only [slotOf]; show (2 * b.val + s.val / 128) / 2 = b.val; omega))
  · refine Fin.ext ?_
    show 128 * (rj (slotOf (ix3 b s n))).2.val + s.val % 128 = s.val
    rw [(rj_val _).2]
    show 128 * ((2 * b.val + s.val / 128) % 2) + s.val % 128 = s.val
    omega
end

/-! ## The claim -/

/-- Magnitudes below infinity are those of real numbers. -/
theorem isReal_of_abs {s : Shape} (x : FVec Ideal s .bf16) (hb : (⟨0, ![]⟩ : Shape).BroadcastsInDim s (![] : Fin 0 → Fin s.rank))
    (h : cmpf .olt (Host.absf x) (broadcastInDim s ![] hb (constant (F := Ideal) ⟨0, ![]⟩ .bf16 0x7F80#16)) = fun _ => 1#1) (i : s.Idx) : IsReal (x i) := by
  have hi := congrFun h i
  change BitVec.ofBool (decide (max (x i) (-(x i)) < Ideal.ofBits .bf16 0x7F80#16)) = 1#1 at hi
  have htop : Ideal.ofBits .bf16 0x7F80#16 = ⊤ := by simp [Ideal.ofBits, Ideal.ieee]
  rw [htop] at hi
  have hlt : max (x i) (-(x i)) < ⊤ := by
    by_contra hn
    rw [decide_eq_false hn] at hi
    exact absurd hi (by decide)
  have h1 := lt_of_le_of_lt (le_max_left _ _) hlt
  have h2 := lt_of_le_of_lt (le_max_right _ _) hlt
  refine isReal_of_ne h1.ne fun hbot => ?_
  rw [hbot, EReal.neg_bot] at h2
  exact lt_irrefl _ h2

/-- A block along the heads at an index. -/
theorem block_at (c : Fin 4) (K : FVec Ideal Cert.ReferenceIdeal.S2x256x16x64 .bf16) (b : Fin 2) (j : Fin 256) (h : Fin 4) (d : Fin 64) :
    Layout.block (⟨4, ![2, 256, 4, 64]⟩ : Shape) ⟨4, ![2, 256, 16, 64]⟩ 2 4 c K (by decide) (ix4 b j h d) = K (ix4 b j (hd c h) d) := by
  rw [Layout.block_apply]
  congr 1
  have : (hd c h).val = 4 * c.val + h.val := rfl
  funext a
  fin_cases a <;> shard_ext

/-- A whole array is one of real numbers when each of the four devices' blocks along the heads is. -/
theorem isReal_of_blocks (K : FVec Ideal Cert.ReferenceIdeal.S2x256x16x64 .bf16)
    (h : ∀ c : Fin 4, ∀ i, IsReal (Layout.block (⟨4, ![2, 256, 4, 64]⟩ : Shape) ⟨4, ![2, 256, 16, 64]⟩ 2 4 c K (by decide) i))
    (i : Cert.ReferenceIdeal.S2x256x16x64.Idx) : IsReal (K i) := by
  obtain ⟨b, j, H, d, rfl⟩ : ∃ (b : Fin 2) (j : Fin 256) (H : Fin 16) (d : Fin 64), i = ix4 b j H d :=
    ⟨i 0, i 1, i 2, i 3, by funext a; fin_cases a <;> rfl⟩
  have e : hd (⟨H / 4, by omega⟩ : Fin 4) ⟨H % 4, by omega⟩ = H := Fin.ext (by simp [hd]; omega)
  have := h ⟨H / 4, by omega⟩ (ix4 b j ⟨H % 4, by omega⟩ d)
  rwa [block_at, e] at this

/-- From arguments that are the parts of whole arrays, with real queries' factors and keys, every device's result over the reals
    is the reference's, and both programs run and keep their arguments. -/
theorem algebraic : Cert.algebraic_KernelIdeal_ReferenceIdeal_pre_finite_scores_KernelIdeal := by
  intro m ρ m' ρ' hpre hagree
  have hI : PartsOf (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1))
      (m' (((0 : Dev Cert.ReferenceIdeal.nD).tc : Thread _ Cert.ReferenceIdeal.τ).loc Cert.ReferenceIdeal.main_arg2))
      (m' (((0 : Dev Cert.ReferenceIdeal.nD).tc : Thread _ Cert.ReferenceIdeal.τ).loc Cert.ReferenceIdeal.main_arg3))
      (m' (((0 : Dev Cert.ReferenceIdeal.nD).tc : Thread _ Cert.ReferenceIdeal.τ).loc Cert.ReferenceIdeal.main_arg4)) (inputs m ρ) :=
    { x_eq := fun c => (inputs_x m ρ c).trans (hagree c).1
      wq_eq := fun c => (inputs_wq m ρ c).trans (hagree c).2.1
      k_eq := fun c b j h d => (congrFun ((inputs_k m ρ c).trans (hagree c).2.2.1) _).trans (block_at c _ b j h d)
      v_eq := fun c b j h d => (congrFun ((inputs_v m ρ c).trans (hagree c).2.2.2.1) _).trans (block_at c _ b j h d)
      wo_eq := fun c => (inputs_wo m ρ c).trans (hagree c).2.2.2.2 }
  have hx : ∀ i, IsReal (m' (((0 : Dev Cert.ReferenceIdeal.nD).tc : Thread _ Cert.ReferenceIdeal.τ).loc Cert.ReferenceIdeal.main_arg0) i) := by
    rw [← (hagree 0).1]
    exact isReal_of_abs _ _ (hpre 0).1
  have hwq : ∀ i, IsReal (m' (((0 : Dev Cert.ReferenceIdeal.nD).tc : Thread _ Cert.ReferenceIdeal.τ).loc Cert.ReferenceIdeal.main_arg1) i) := by
    rw [← (hagree 0).2.1]
    exact isReal_of_abs _ _ (hpre 0).2.1
  have hK : ∀ i, IsReal (m' (((0 : Dev Cert.ReferenceIdeal.nD).tc : Thread _ Cert.ReferenceIdeal.τ).loc Cert.ReferenceIdeal.main_arg2) i) := by
    refine isReal_of_blocks _ fun c => ?_
    rw [← (hagree c).2.2.1]
    exact isReal_of_abs _ _ (hpre c).2.2
  refine ⟨Cert.ReferenceIdeal.Value.res_out0 m' 0, ?_, ?_⟩
  · exact (θ_run Cert.KernelIdeal.defs _ _).mono
      (fun r h c => ⟨(h.1 c (5 : Fin 6)).trans (((final_out m ρ c).trans (outAt_eq hI hx hwq hK c)).trans (Refr.res_eq m' 0).symm), args_kept m ρ r h.1 c⟩)
      (run_main (F := Ideal) m ρ)
  · exact (θ_run Cert.ReferenceIdeal.defs _ _).mono (fun _ h => h 0) (Cert.ReferenceIdeal.Value.run (F := Ideal) m' ρ')

end Cert.Exchange

end
-- ==== Proof.lean ====
/- The certificate: each claim is proved in a module under Proof/, and put together here. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal
public import proofs.«01_k».proof.Proof.Frames
public import proofs.«01_k».proof.Proof.Total
public import Idealize.ShloMosaic.Adequacy
public import Idealize.ShloMosaic.Init

@[expose] public section

noncomputable section

namespace Cert.Proof

open Idealize.ShloMosaic Idealize.SL.Sem Cert.Kernel

/-- The kernel and the reference run and leave everything but their results as it was, the idealized kernel names the mask, and
    over the reals every device's result is the reference's. -/
theorem claim : Cert.Claim := ⟨Cert.Kernel.Gen.facts, Cert.KernelIdeal.Gen.facts, Cert.ReferenceIdeal.Gen.facts,
  Cert.Pre_finite_scores_KernelIdeal.Gen.facts, Cert.Pre_finite_scores_ReferenceIdeal.Gen.facts,
  Cert.Exchange.frame_kernel, Cert.Exchange.frame_kernelIdeal, Cert.Exchange.frame_kernelIdeal_pre,
  Cert.Exchange.frame_reference, Cert.Exchange.frame_reference_pre, Cert.Exchange.mask_named, Cert.Exchange.algebraic⟩

end Cert.Proof

end
